-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![16384, 2]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = Layout.block ⟨2, ![1024, 1024]⟩ ⟨2, ![16384, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S1024x512 : Shape := ⟨2, ![1024, 512]⟩
abbrev S512x64 : Shape := ⟨2, ![512, 64]⟩
abbrev S1024x2 : Shape := ⟨2, ![1024, 2]⟩
abbrev S4x512x1024 : Shape := ⟨3, ![4, 512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn {F : FTy → Type} [FloatOps F] (main_arg0 : FVec F S1024x512 .f32) (main_arg1 : FVec F S512x64 .f32) (main_arg2 : IVec S1024x2 32) (main_arg3 : FVec F S4x512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_c_2 : IVec S_ 32 := constantI S_ 32 0#32
  let main_v9 : IVec S1024x2 32 := broadcastInDim S1024x2 ![] bcast_S_S1024x2 main_c_2
  let main_v10 : IVec S1024x2 1 := cmpi .sge main_arg2 main_v9
  let main_c_3 : IVec S_ 32 := constantI S_ 32 64#32
  let main_v11 : IVec S1024x2 32 := broadcastInDim S1024x2 ![] bcast_S_S1024x2 main_c_3
  let main_v12 : IVec S1024x2 1 := cmpi .slt main_arg2 main_v11
  let main_v13 : IVec S1024x2 1 := andi main_v10 main_v12
  let main_c_4 : IVec S_ 1 := constantI S_ 1 1#1
  let main_v14 : IVec S_ 1 := (fun x v => Host.reduce IntOp.andi x v reducesTo_S1024x2_S_d0_1 h_S_) main_v13 main_c_4
  let main_v15 : IVec S_ 1 := andi main_v8 main_v14
  main_v15
-- ==== Pre_finite_and_in_range_ReferenceIdeal.lean ====
abbrev S16384x512 : Shape := ⟨2, ![16384, 512]⟩
abbrev S512x64 : Shape := ⟨2, ![512, 64]⟩
abbrev S16384x2 : Shape := ⟨2, ![16384, 2]⟩
abbrev S64x512x1024 : Shape := ⟨3, ![64, 512, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S16384x2 : S_.BroadcastsInDim S16384x2 (![] : Fin 0 → Fin S16384x2.rank)
  reducesTo_S16384x2_S_d0_1 : S16384x2.ReducesTo [0, 1] S_

variable [Facts]

def fn {F : FTy → Type} [FloatOps F] (main_arg0 : FVec F S16384x512 .f32) (main_arg1 : FVec F S512x64 .f32) (main_arg2 : IVec S16384x2 32) (main_arg3 : FVec F S64x512x1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_c_2 : IVec S_ 32 := constantI S_ 32 0#32
  let main_v9 : IVec S16384x2 32 := broadcastInDim S16384x2 ![] bcast_S_S16384x2 main_c_2
  let main_v10 : IVec S16384x2 1 := cmpi .sge main_arg2 main_v9
  let main_c_3 : IVec S_ 32 := constantI S_ 32 64#32
  let main_v11 : IVec S16384x2 32 := broadcastInDim S16384x2 ![] bcast_S_S16384x2 main_c_3
  let main_v12 : IVec S16384x2 1 := cmpi .slt main_arg2 main_v11
  let main_v13 : IVec S16384x2 1 := andi main_v10 main_v12
  let main_c_4 : IVec S_ 1 := constantI S_ 1 1#1
  let main_v14 : IVec S_ 1 := (fun x v => Host.reduce IntOp.andi x v reducesTo_S16384x2_S_d0_1 h_S_) main_v13 main_c_4
  let main_v15 : IVec S_ 1 := andi main_v8 main_v14
  main_v15
-- ==== Kernel.lean ====
abbrev S1024x512 : Shape := ⟨2, ![1024, 512]⟩
abbrev S512x64 : Shape := ⟨2, ![512, 64]⟩
abbrev S1024x2 : Shape := ⟨2, ![1024, 2]⟩
abbrev S4x512x1024 : Shape := ⟨3, ![4, 512, 1024]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1 : Shape := ⟨1, ![1]⟩
abbrev S1024x128 : Shape := ⟨2, ![1024, 128]⟩
abbrev S1024x576 : Shape := ⟨2, ![1024, 576]⟩
abbrev S2048x1024 : Shape := ⟨2, ![2048, 1024]⟩
abbrev S1024x1024 : Shape := ⟨2, ![1024, 1024]⟩
abbrev S2x1024x576 : Shape := ⟨3, ![2, 1024, 576]⟩
abbrev S2x1024x1024 : Shape := ⟨3, ![2, 1024, 1024]⟩
abbrev S2 : Shape := ⟨1, ![2]⟩
abbrev S1x1024x576 : Shape := ⟨3, ![1, 1024, 576]⟩
abbrev S1x1024x512 : Shape := ⟨3, ![1, 1024, 512]⟩
abbrev S1x1024x1 : Shape := ⟨3, ![1, 1024, 1]⟩
abbrev S512x1024 : Shape := ⟨2, ![512, 1024]⟩
abbrev S1x1024x1024 : Shape := ⟨3, ![1, 1024, 1024]⟩

abbrev nBuf : Space → Nat
  | .hbm => 84
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x2, .i32⟩
  | .hbm, ⟨3, _⟩ => ⟨S4x512x1024, .f32⟩
  | .hbm, ⟨4, _⟩ => ⟨S1024x64, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x64, .f32⟩
  | .hbm, ⟨18, _⟩ => ⟨S1024x64, .f32⟩
  | .hbm, ⟨19, _⟩ => ⟨S1024x1, .i32⟩
  | .hbm, ⟨20, _⟩ => ⟨S1024, .i32⟩
  | .hbm, ⟨21, _⟩ => ⟨S1024x1, .i32⟩
  | .hbm, ⟨22, _⟩ => ⟨S1x64, .i32⟩
  | .hbm, ⟨23, _⟩ => ⟨S1024x64, .i32⟩
  | .hbm, ⟨24, _⟩ => ⟨S1024x64, .i32⟩
  | .hbm, ⟨25, _⟩ => ⟨S1024x64, .i1⟩
  | .hbm, ⟨26, _⟩ => ⟨S1024x64, .f32⟩
  | .hbm, ⟨27, _⟩ => ⟨S1024x1, .i32⟩
  | .hbm, ⟨28, _⟩ => ⟨S1024, .i32⟩
  | .hbm, ⟨29, _⟩ => ⟨S1024x1, .i32⟩
  | .hbm, ⟨30, _⟩ => ⟨S1x64, .i32⟩
  | .hbm, ⟨31, _⟩ => ⟨S1024x64, .i32⟩
  | .hbm, ⟨32, _⟩ => ⟨S1024x64, .i32⟩
  | .hbm, ⟨33, _⟩ => ⟨S1024x64, .i1⟩
  | .hbm, ⟨34, _⟩ => ⟨S1024x64, .f32⟩
  | .hbm, ⟨35, _⟩ => ⟨S1024x64, .f32⟩
  | .hbm, ⟨36, _⟩ => ⟨S1024x64, .f32⟩
  | .hbm, ⟨37, _⟩ => ⟨S_, .f32⟩
  | .hbm, ⟨38, _⟩ => ⟨S1024, .f32⟩
  | .hbm, ⟨39, _⟩ => ⟨S1024x1, .f32⟩
  | .hbm, ⟨40, _⟩ => ⟨S1024x64, .f32⟩
  | .hbm, ⟨41, _⟩ => ⟨S1024x64, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1, .i32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i1⟩
  | .hbm, ⟨67, _⟩ => ⟨S_, .i1⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S1024x128, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1024x64, .f32⟩
  | .hbm, ⟨81, _⟩ => ⟨S1024x576, .f32⟩
  | .hbm, ⟨82, _⟩ => ⟨S2048x1024, .f32⟩
  | .hbm, ⟨83, _⟩ => ⟨S1024x1024, .f32⟩
  | .local _ .vmem, ⟨0, _⟩ => ⟨S1024x576, .f32⟩
  | .local _ .vmem, ⟨1, _⟩ => ⟨S2048x1024, .f32⟩
  | .local _ .vmem, ⟨2, _⟩ => ⟨S1024x1024, .f32⟩
  | .local _ .vmem, ⟨3, _⟩ => ⟨S2x1024x576, .f32⟩
  | .local _ .vmem, ⟨4, _⟩ => ⟨S2x1024x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 2 13 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_c : Ref sig .tc := ⟨.hbm, 53, rfl⟩
abbrev main_call2_c_0 : Ref sig .tc := ⟨.hbm, 54, rfl⟩
abbrev main_call2_v3 : Ref sig .tc := ⟨.hbm, 55, rfl⟩
abbrev main_call2_call0_c : Ref sig .tc := ⟨.hbm, 56, rfl⟩
abbrev main_call2_call0_v0 : Ref sig .tc := ⟨.hbm, 57, rfl⟩
abbrev main_call2_call0_c_0 : Ref sig .tc := ⟨.hbm, 58, rfl⟩
abbrev main_call2_call0_v1 : Ref sig .tc := ⟨.hbm, 59, rfl⟩
abbrev main_call2_call0_v2 : Ref sig .tc := ⟨.hbm, 60, rfl⟩
abbrev main_call2_call0_c_1 : Ref sig .tc := ⟨.hbm, 61, rfl⟩
abbrev main_call2_call0_v3 : Ref sig .tc := ⟨.hbm, 62, rfl⟩
abbrev main_call2_call0_c_2 : Ref sig .tc := ⟨.hbm, 63, rfl⟩
abbrev main_call2_call0_v4 : Ref sig .tc := ⟨.hbm, 64, rfl⟩
abbrev main_call2_call0_c_3 : Ref sig .tc := ⟨.hbm, 65, rfl⟩
abbrev main_call2_call0_v5 : Ref sig .tc := ⟨.hbm, 66, rfl⟩
abbrev main_call2_call0_v6 : Ref sig .tc := ⟨.hbm, 67, rfl⟩
abbrev main_call2_call0_v7 : Ref sig .tc := ⟨.hbm, 68, rfl⟩
abbrev main_call2_call0_v8 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_c_3 : Ref sig .tc := ⟨.hbm, 76, rfl⟩
abbrev main_call2_v8 : Ref sig .tc := ⟨.hbm, 77, rfl⟩
abbrev main_call2_v9 : Ref sig .tc := ⟨.hbm, 78, rfl⟩
abbrev main_call2_c_4 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_41 : BitVec 32 := 1#32
  let v54 : BitVec 32 := Scalar.muli v7 c1_i32_41
  let v55 : BitVec 32 := Scalar.addi c0_i32_42 v54
  v55.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_51 : BitVec 32 := 1#32
  let v64 : BitVec 32 := Scalar.muli v7 c1_i32_51
  let v65 : BitVec 32 := Scalar.addi c0_i32_52 v64
  v65.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_96 : BitVec 32 := 1#32
  let v102 : BitVec 32 := Scalar.muli v5 c1_i32_96
  let v103 : BitVec 32 := Scalar.addi c0_i32_97 v102
  v103.toNat
def k0_dev6 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_132 : BitVec 32 := 1#32
  let v143 : BitVec 32 := Scalar.muli v7 c1_i32_132
  let v144 : BitVec 32 := Scalar.addi c0_i32_133 v143
  v144.toNat
def k0_dev7 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_142 : BitVec 32 := 1#32
  let v153 : BitVec 32 := Scalar.muli v7 c1_i32_142
  let v154 : BitVec 32 := Scalar.addi c0_i32_143 v153
  v154.toNat
def k0_dev8 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_187 : BitVec 32 := 1#32
  let v191 : BitVec 32 := Scalar.muli v5 c1_i32_187
  let v192 : BitVec 32 := Scalar.addi c0_i32_188 v191
  v192.toNat
def k0_dev9 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_224 : BitVec 32 := 1#32
  let v232 : BitVec 32 := Scalar.muli v7 c1_i32_224
  let v233 : BitVec 32 := Scalar.addi c0_i32_225 v232
  v233.toNat
def k0_dev10 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_234 : BitVec 32 := 1#32
  let v242 : BitVec 32 := Scalar.muli v7 c1_i32_234
  let v243 : BitVec 32 := Scalar.addi c0_i32_235 v242
  v243.toNat
def k0_dev11 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_279 : BitVec 32 := 1#32
  let v280 : BitVec 32 := Scalar.muli v5 c1_i32_279
  let v281 : BitVec 32 := Scalar.addi c0_i32_280 v280
  v281.toNat
def k0_dev12 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_316 : BitVec 32 := 1#32
  let v321 : BitVec 32 := Scalar.muli v7 c1_i32_316
  let v322 : BitVec 32 := Scalar.addi c0_i32_317 v321
  v322.toNat
def k0_dev13 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_326 : BitVec 32 := 1#32
  let v331 : BitVec 32 := Scalar.muli v7 c1_i32_326
  let v332 : BitVec 32 := Scalar.addi c0_i32_327 v331
  v332.toNat
def k0_dev14 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_371 : BitVec 32 := 1#32
  let v369 : BitVec 32 := Scalar.muli v5 c1_i32_371
  let v370 : BitVec 32 := Scalar.addi c0_i32_372 v369
  v370.toNat
def k0_dev15 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_408 : BitVec 32 := 1#32
  let v410 : BitVec 32 := Scalar.muli v7 c1_i32_408
  let v411 : BitVec 32 := Scalar.addi c0_i32_409 v410
  v411.toNat
def k0_dev16 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_418 : BitVec 32 := 1#32
  let v420 : BitVec 32 := Scalar.muli v7 c1_i32_418
  let v421 : BitVec 32 := Scalar.addi c0_i32_419 v420
  v421.toNat
def k0_dev17 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_463 : BitVec 32 := 1#32
  let v458 : BitVec 32 := Scalar.muli v5 c1_i32_463
  let v459 : BitVec 32 := Scalar.addi c0_i32_464 v458
  v459.toNat
def k0_dev18 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_500 : BitVec 32 := 1#32
  let v499 : BitVec 32 := Scalar.muli v7 c1_i32_500
  let v500 : BitVec 32 := Scalar.addi c0_i32_501 v499
  v500.toNat
def k0_dev19 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_510 : BitVec 32 := 1#32
  let v509 : BitVec 32 := Scalar.muli v7 c1_i32_510
  let v510 : BitVec 32 := Scalar.addi c0_i32_511 v509
  v510.toNat
def k0_dev20 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_555 : BitVec 32 := 1#32
  let v547 : BitVec 32 := Scalar.muli v5 c1_i32_555
  let v548 : BitVec 32 := Scalar.addi c0_i32_556 v547
  v548.toNat
def k0_dev21 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_592 : BitVec 32 := 1#32
  let v588 : BitVec 32 := Scalar.muli v7 c1_i32_592
  let v589 : BitVec 32 := Scalar.addi c0_i32_593 v588
  v589.toNat
def k0_dev22 (d0 : Dev nD) : Nat :=
  let c0_i32_603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_602 : BitVec 32 := 1#32
  let v598 : BitVec 32 := Scalar.muli v7 c1_i32_602
  let v599 : BitVec 32 := Scalar.addi c0_i32_603 v598
  v599.toNat
def k0_dev23 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_647 : BitVec 32 := 1#32
  let v636 : BitVec 32 := Scalar.muli v5 c1_i32_647
  let v637 : BitVec 32 := Scalar.addi c0_i32_648 v636
  v637.toNat
def k0_dev24 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_684 : BitVec 32 := 1#32
  let v677 : BitVec 32 := Scalar.muli v7 c1_i32_684
  let v678 : BitVec 32 := Scalar.addi c0_i32_685 v677
  v678.toNat
def k0_dev25 (d0 : Dev nD) : Nat :=
  let c0_i32_695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_694 : BitVec 32 := 1#32
  let v687 : BitVec 32 := Scalar.muli v7 c1_i32_694
  let v688 : BitVec 32 := Scalar.addi c0_i32_695 v687
  v688.toNat
def k0_dev26 (d0 : Dev nD) : Nat :=
  let c0_i32_740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_739 : BitVec 32 := 1#32
  let v725 : BitVec 32 := Scalar.muli v5 c1_i32_739
  let v726 : BitVec 32 := Scalar.addi c0_i32_740 v725
  v726.toNat
def k0_dev27 (d0 : Dev nD) : Nat :=
  let c0_i32_777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_776 : BitVec 32 := 1#32
  let v766 : BitVec 32 := Scalar.muli v7 c1_i32_776
  let v767 : BitVec 32 := Scalar.addi c0_i32_777 v766
  v767.toNat
def k0_dev28 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_786 : BitVec 32 := 1#32
  let v776 : BitVec 32 := Scalar.muli v7 c1_i32_786
  let v777 : BitVec 32 := Scalar.addi c0_i32_787 v776
  v777.toNat
def k0_dev29 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_831 : BitVec 32 := 1#32
  let v814 : BitVec 32 := Scalar.muli v5 c1_i32_831
  let v815 : BitVec 32 := Scalar.addi c0_i32_832 v814
  v815.toNat
def k0_dev30 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_868 : BitVec 32 := 1#32
  let v855 : BitVec 32 := Scalar.muli v7 c1_i32_868
  let v856 : BitVec 32 := Scalar.addi c0_i32_869 v855
  v856.toNat
def k0_dev31 (d0 : Dev nD) : Nat :=
  let c0_i32_879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_878 : BitVec 32 := 1#32
  let v865 : BitVec 32 := Scalar.muli v7 c1_i32_878
  let v866 : BitVec 32 := Scalar.addi c0_i32_879 v865
  v866.toNat
def k0_dev32 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_923 : BitVec 32 := 1#32
  let v903 : BitVec 32 := Scalar.muli v5 c1_i32_923
  let v904 : BitVec 32 := Scalar.addi c0_i32_924 v903
  v904.toNat
def k0_dev33 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_960 : BitVec 32 := 1#32
  let v944 : BitVec 32 := Scalar.muli v7 c1_i32_960
  let v945 : BitVec 32 := Scalar.addi c0_i32_961 v944
  v945.toNat
def k0_dev34 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_970 : BitVec 32 := 1#32
  let v954 : BitVec 32 := Scalar.muli v7 c1_i32_970
  let v955 : BitVec 32 := Scalar.addi c0_i32_971 v954
  v955.toNat
def k0_dev35 (d0 : Dev nD) : Nat :=
  let c0_i32_1016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1015 : BitVec 32 := 1#32
  let v992 : BitVec 32 := Scalar.muli v5 c1_i32_1015
  let v993 : BitVec 32 := Scalar.addi c0_i32_1016 v992
  v993.toNat
def k0_dev36 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1052 : BitVec 32 := 1#32
  let v1033 : BitVec 32 := Scalar.muli v7 c1_i32_1052
  let v1034 : BitVec 32 := Scalar.addi c0_i32_1053 v1033
  v1034.toNat
def k0_dev37 (d0 : Dev nD) : Nat :=
  let c0_i32_1063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1062 : BitVec 32 := 1#32
  let v1043 : BitVec 32 := Scalar.muli v7 c1_i32_1062
  let v1044 : BitVec 32 := Scalar.addi c0_i32_1063 v1043
  v1044.toNat
def k0_dev38 (d0 : Dev nD) : Nat :=
  let c0_i32_1108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1107 : BitVec 32 := 1#32
  let v1081 : BitVec 32 := Scalar.muli v5 c1_i32_1107
  let v1082 : BitVec 32 := Scalar.addi c0_i32_1108 v1081
  v1082.toNat
def k0_dev39 (d0 : Dev nD) : Nat :=
  let c0_i32_1145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1144 : BitVec 32 := 1#32
  let v1122 : BitVec 32 := Scalar.muli v7 c1_i32_1144
  let v1123 : BitVec 32 := Scalar.addi c0_i32_1145 v1122
  v1123.toNat
def k0_dev40 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1154 : BitVec 32 := 1#32
  let v1132 : BitVec 32 := Scalar.muli v7 c1_i32_1154
  let v1133 : BitVec 32 := Scalar.addi c0_i32_1155 v1132
  v1133.toNat
def k0_dev41 (d0 : Dev nD) : Nat :=
  let c0_i32_1200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1199 : BitVec 32 := 1#32
  let v1170 : BitVec 32 := Scalar.muli v5 c1_i32_1199
  let v1171 : BitVec 32 := Scalar.addi c0_i32_1200 v1170
  v1171.toNat
def k0_dev42 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1236 : BitVec 32 := 1#32
  let v1211 : BitVec 32 := Scalar.muli v7 c1_i32_1236
  let v1212 : BitVec 32 := Scalar.addi c0_i32_1237 v1211
  v1212.toNat
def k0_dev43 (d0 : Dev nD) : Nat :=
  let c0_i32_1247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1246 : BitVec 32 := 1#32
  let v1221 : BitVec 32 := Scalar.muli v7 c1_i32_1246
  let v1222 : BitVec 32 := Scalar.addi c0_i32_1247 v1221
  v1222.toNat
def k0_dev44 (d0 : Dev nD) : Nat :=
  let c0_i32_1292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1291 : BitVec 32 := 1#32
  let v1259 : BitVec 32 := Scalar.muli v5 c1_i32_1291
  let v1260 : BitVec 32 := Scalar.addi c0_i32_1292 v1259
  v1260.toNat
def k0_dev45 (d0 : Dev nD) : Nat :=
  let c0_i32_1329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1328 : BitVec 32 := 1#32
  let v1300 : BitVec 32 := Scalar.muli v7 c1_i32_1328
  let v1301 : BitVec 32 := Scalar.addi c0_i32_1329 v1300
  v1301.toNat
def k0_dev46 (d0 : Dev nD) : Nat :=
  let c0_i32_1339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1338 : BitVec 32 := 1#32
  let v1310 : BitVec 32 := Scalar.muli v7 c1_i32_1338
  let v1311 : BitVec 32 := Scalar.addi c0_i32_1339 v1310
  v1311.toNat
def k0_dev47 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1412 : BitVec 32 := 1#32
  let v1387 : BitVec 32 := Scalar.muli v7 c1_i32_1412
  let v1388 : BitVec 32 := Scalar.addi c0_i32_1413 v1387
  v1388.toNat
abbrev stage0_0 : Fin 1 → Memref sig .tc .vmem S1024x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x512 : Shape := ⟨2, ![16384, 512]⟩
abbrev S512x64 : Shape := ⟨2, ![512, 64]⟩
abbrev S16384x2 : Shape := ⟨2, ![16384, 2]⟩
abbrev S64x512x1024 : Shape := ⟨3, ![64, 512, 1024]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S16384x512x1024 : Shape := ⟨3, ![16384, 512, 1024]⟩
abbrev S16384x1024 : Shape := ⟨2, ![16384, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x64, .f32⟩
  | .hbm, ⟨2, _⟩ => ⟨S16384x2, .i32⟩
  | .hbm, ⟨3, _⟩ => ⟨S64x512x1024, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x1, .i32⟩
  | .hbm, ⟨17, _⟩ => ⟨S16384, .i32⟩
  | .hbm, ⟨18, _⟩ => ⟨S16384x1, .i32⟩
  | .hbm, ⟨19, _⟩ => ⟨S16384, .i32⟩
  | .hbm, ⟨20, _⟩ => ⟨S16384x1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S16384x1x1, .i32⟩
  | .hbm, ⟨29, _⟩ => ⟨S1, .i32⟩
  | .hbm, ⟨30, _⟩ => ⟨S_, .i32⟩
  | .hbm, ⟨31, _⟩ => ⟨S16384x1x1, .i32⟩
  | .hbm, ⟨32, _⟩ => ⟨S16384x1x1, .i1⟩
  | .hbm, ⟨33, _⟩ => ⟨S1x1x1, .i32⟩
  | .hbm, ⟨34, _⟩ => ⟨S16384x1x1, .i32⟩
  | .hbm, ⟨35, _⟩ => ⟨S16384x1x1, .i1⟩
  | .hbm, ⟨36, _⟩ => ⟨S16384x1x1, .i1⟩
  | .hbm, ⟨37, _⟩ => ⟨S_, .i1⟩
  | .hbm, ⟨38, _⟩ => ⟨S16384x1, .i1⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .i32⟩
  | .hbm, ⟨44, _⟩ => ⟨S_, .i32⟩
  | .hbm, ⟨45, _⟩ => ⟨S16384x1, .i32⟩
  | .hbm, ⟨46, _⟩ => ⟨S16384x1, .i1⟩
  | .hbm, ⟨47, _⟩ => ⟨S_, .i32⟩
  | .hbm, ⟨48, _⟩ => ⟨S16384x1, .i32⟩
  | .hbm, ⟨49, _⟩ => ⟨S16384x1, .i32⟩
  | .hbm, ⟨50, _⟩ => ⟨S16384x1, .i32⟩
  | .hbm, ⟨51, _⟩ => ⟨S16384x1x1, .i32⟩
  | .hbm, ⟨52, _⟩ => ⟨S1, .i32⟩
  | .hbm, ⟨53, _⟩ => ⟨S_, .i32⟩
  | .hbm, ⟨54, _⟩ => ⟨S16384x1x1, .i32⟩
  | .hbm, ⟨55, _⟩ => ⟨S16384x1x1, .i1⟩
  | .hbm, ⟨56, _⟩ => ⟨S1x1x1, .i32⟩
  | .hbm, ⟨57, _⟩ => ⟨S16384x1x1, .i32⟩
  | .hbm, ⟨58, _⟩ => ⟨S16384x1x1, .i1⟩
  | .hbm, ⟨59, _⟩ => ⟨S16384x1x1, .i1⟩
  | .hbm, ⟨60, _⟩ => ⟨S_, .i1⟩
  | .hbm, ⟨61, _⟩ => ⟨S16384x1, .i1⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S_, .i32⟩
  | .hbm, ⟨68, _⟩ => ⟨S16384, .i32⟩
  | .hbm, ⟨69, _⟩ => ⟨S16384, .i1⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S16384, .i32⟩
  | .hbm, ⟨74, _⟩ => ⟨S16384x1, .i32⟩
  | .hbm, ⟨75, _⟩ => ⟨S16384x512x1024, .f32⟩
  | .hbm, ⟨76, _⟩ => ⟨S16384x1024, .f32⟩
  | .hbm, ⟨77, _⟩ => ⟨S_, .i32⟩
  | .hbm, ⟨78, _⟩ => ⟨S16384, .i32⟩
  | .hbm, ⟨79, _⟩ => ⟨S16384, .i1⟩
  | .hbm, ⟨80, _⟩ => ⟨S_, .i32⟩
  | .hbm, ⟨81, _⟩ => ⟨S16384, .i32⟩
  | .hbm, ⟨82, _⟩ => ⟨S16384, .i32⟩
  | .hbm, ⟨83, _⟩ => ⟨S16384, .i32⟩
  | .hbm, ⟨84, _⟩ => ⟨S16384x1, .i32⟩
  | .hbm, ⟨85, _⟩ => ⟨S16384x512x1024, .f32⟩
  | .hbm, ⟨86, _⟩ => ⟨S16384x1024, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S16384x1, .f32⟩
  | .hbm, ⟨91, _⟩ => ⟨S16384x1024, .f32⟩
  | .hbm, ⟨92, _⟩ => ⟨S16384x1024, .f32⟩
  | .hbm, ⟨93, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_c : Ref sig .tc := ⟨.hbm, 67, rfl⟩
abbrev main_v19 : Ref sig .tc := ⟨.hbm, 68, rfl⟩
abbrev main_v20 : Ref sig .tc := ⟨.hbm, 69, rfl⟩
abbrev main_c_1 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_c_2 : Ref sig .tc := ⟨.hbm, 77, rfl⟩
abbrev main_v27 : Ref sig .tc := ⟨.hbm, 78, rfl⟩
abbrev main_v28 : Ref sig .tc := ⟨.hbm, 79, rfl⟩
abbrev main_c_3 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩

abbrev nD : Nat := 1
abbrev τ : Topo := Topo.v7x

variable {F : FTy → Type} [FloatOps F]
-- ==== Proof.KernelIdeal.Program.lean ====
/- The kernel body as a walk over its sixteen steps.

The printed body is one straight line of some six hundred operations. Here it is the same line written once per KIND of
step: a step hands the two current blocks (the rows and the partial sums) to the right neighbour, waits for the left
neighbour's, says so to the left neighbour, and adds this device's four experts' products to the partial sums that
arrived. The slots alternate, so a step is described by its number alone. -/
module

public import proofs.«01_k».proof.Defs
public import proofs.«01_k».proof.Proof.Gen.KernelIdeal
public import proofs.«01_k».proof.Proof.Gen.KernelIdeal.Skeleton

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-- A program of the core the kernel runs on. -/
abbrev Body (F : FTy → Type) := Prog (TpuEff nD τ sig (Elt F) Λ₀ .tc) PUnit

/-! ## The slots -/

/-- The buffer of the two slots the rows travel through. -/
abbrev xBuf : Memref sig .tc .vmem S2x1024x576 .f32 := Memref.whole cc0_scratch0
/-- The buffer of the two slots the partial sums travel through. -/
abbrev aBuf : Memref sig .tc .vmem S2x1024x1024 .f32 := Memref.whole cc0_scratch1
/-- The staged rows and weights of this device, and the staged result. -/
abbrev xIn : Memref sig .tc .vmem S1024x576 .f32 := Memref.whole cc0_stg0_0
abbrev wIn : Memref sig .tc .vmem S2048x1024 .f32 := Memref.whole cc0_stg1_0
abbrev yOut : Memref sig .tc .vmem S1024x1024 .f32 := Memref.whole cc0_stg2_0

theorem inbX (s : Fin 2) : ∀ a, (![s.val, 0, 0] : Fin 3 → ℕ) a + S1x1024x576.size a ≤ S2x1024x576.size a := by
  intro a; have := s.isLt; fin_cases a <;> simp [S1x1024x576, S2x1024x576] <;> omega

theorem inbA (s : Fin 2) : ∀ a, (![s.val, 0, 0] : Fin 3 → ℕ) a + S1x1024x1024.size a ≤ S2x1024x1024.size a := by
  intro a; have := s.isLt; fin_cases a <;> simp [S1x1024x1024, S2x1024x1024] <;> omega

theorem inbRows (s : Fin 2) : ∀ a, (![s.val, 0, 0] : Fin 3 → ℕ) a + S1x1024x512.size a ≤ S2x1024x576.size a := by
  intro a; have := s.isLt; fin_cases a <;> simp [S1x1024x512, S2x1024x576] <;> omega

theorem inbCol (s : Fin 2) {k : ℕ} (hk : k < 64) :
    ∀ a, (![s.val, 0, 512 + k] : Fin 3 → ℕ) a + S1x1024x1.size a ≤ S2x1024x576.size a := by
  intro a; have := s.isLt; fin_cases a <;> simp [S1x1024x1, S2x1024x576] <;> omega

theorem inbW (j : Fin 4) : ∀ a, (![512 * j.val, 0] : Fin 2 → ℕ) a + S512x1024.size a ≤ S2048x1024.size a := by
  intro a; have := j.isLt; fin_cases a <;> simp [S512x1024, S2048x1024] <;> omega

/-- Slot `s` of the rows, and of the partial sums. -/
abbrev rX (s : Fin 2) : Rect S2x1024x576 := Rect.unit (s := S2x1024x576) ![s.val, 0, 0] S1x1024x576.size (inbX s)
abbrev rA (s : Fin 2) : Rect S2x1024x1024 := Rect.unit (s := S2x1024x1024) ![s.val, 0, 0] S1x1024x1024.size (inbA s)
abbrev xSlot (s : Fin 2) : Memref sig .tc .vmem S1024x576 .f32 :=
  (xBuf.slice (rX s) (fun _ => rfl)).squeeze S1024x576 squeezes_S1x1024x576_S1024x576
abbrev aSlot (s : Fin 2) : Memref sig .tc .vmem S1024x1024 .f32 :=
  (aBuf.slice (rA s) (fun _ => rfl)).squeeze S1024x1024 squeezes_S1x1024x1024_S1024x1024

/-! ## The semaphores -/

/-- The semaphores of a slot: its rows sent and arrived, its partial sums sent and arrived. -/
abbrev xSend (s : Fin 2) : DmaSem sig := ⟨3 + s.val, by have := s.isLt; show _ < 13; omega⟩
abbrev xRecv (s : Fin 2) : DmaSem sig := ⟨5 + s.val, by have := s.isLt; show _ < 13; omega⟩
abbrev aSend (s : Fin 2) : DmaSem sig := ⟨7 + s.val, by have := s.isLt; show _ < 13; omega⟩
abbrev aRecv (s : Fin 2) : DmaSem sig := ⟨9 + s.val, by have := s.isLt; show _ < 13; omega⟩
/-- The semaphores of the last copy, into the result. -/
abbrev ySend : DmaSem sig := ⟨11, by show _ < 13; omega⟩
abbrev yRecv : DmaSem sig := ⟨12, by show _ < 13; omega⟩
/-- The regular semaphores: the credit a device gives its left neighbour, and the barrier. -/
abbrev credS : Sem sig := ⟨0, by show _ < 2; omega⟩
abbrev barS : Sem sig := ⟨1, by show _ < 2; omega⟩

/-! ## The operations of a step -/

/-- The rows' columns of slot `s`, a routing column of it, and this device's block of weights, as loaded. -/
abbrev ldRows (s : Fin 2) (k : Vec F S1x1024x512 .f32 → Body F) : Body F :=
  Prog.lift (.load xBuf (Rect.unit (s := S2x1024x576) ![s.val, 0, 0] S1x1024x512.size (inbRows s)).toLoadRect
    (View.loadsAt_vmem h_S1x1024x512)) >>= k
abbrev ldCol (s : Fin 2) {c : ℕ} (hc : c < 64) (k : Vec F S1x1024x1 .f32 → Body F) : Body F :=
  Prog.lift (.load xBuf (Rect.unit (s := S2x1024x576) ![s.val, 0, 512 + c] S1x1024x1.size (inbCol s hc)).toLoadRect
    (View.loadsAt_vmem h_S1x1024x1)) >>= k
abbrev ldW (j : Fin 4) (k : Vec F S512x1024 .f32 → Body F) : Body F :=
  Prog.lift (.load wIn (Rect.unit (s := S2048x1024) ![512 * j.val, 0] S512x1024.size (inbW j)).toLoadRect
    (View.loadsAt_vmem h_S512x1024)) >>= k
abbrev ldA (s : Fin 2) (k : Vec F S1x1024x1024 .f32 → Body F) : Body F :=
  Prog.lift (.load aBuf (rA s).toLoadRect (View.loadsAt_vmem h_S1x1024x1024)) >>= k
abbrev stA (s : Fin 2) (v : Vec F S1x1024x1024 .f32) (k : Body F) : Body F :=
  Prog.lift (.store aBuf (rA s) v Finset.univ (View.stores_vmem_bits_univ h_S1x1024x1024 rfl) (.inl rfl)) >>= fun _ => k

/-- One expert's product: the rows, each scaled by its routing weight, times the expert's block. -/
def term (x : Vec F S1x1024x512 .f32) (g : Vec F S1x1024x1 .f32) (w : Vec F S512x1024 .f32) : FVec F S1024x1024 .f32 :=
  matmul dot_S1024x512_S512x1024_S1024x1024_1_0_0_1_n_n none
    (mulf (shapeCast S1024x512 x shapeCasts_S1x1024x512_S1024x512)
      (broadcastTo S1024x512 (shapeCast S1024x1 g shapeCasts_S1x1024x1_S1024x1) broadcasts_S1024x1_S1024x512))
    (shapeCast S512x1024 w shapeCasts_S512x1024_S512x1024) (constant S1024x1024 .f32 0x00000000#32)

/-- The four experts' products, summed in order. -/
def four (x : Vec F S1x1024x512 .f32) (g₀ : Vec F S1x1024x1 .f32) (w₀ : Vec F S512x1024 .f32)
    (g₁ : Vec F S1x1024x1 .f32) (w₁ : Vec F S512x1024 .f32) (g₂ : Vec F S1x1024x1 .f32) (w₂ : Vec F S512x1024 .f32)
    (g₃ : Vec F S1x1024x1 .f32) (w₃ : Vec F S512x1024 .f32) : FVec F S1024x1024 .f32 :=
  addf (addf (addf (term x g₀ w₀) (term x g₁ w₁)) (term x g₂ w₂)) (term x g₃ w₃)

/-- The loads of step `h`: the rows of slot `s`, then routing columns `4h .. 4h+3` with the four blocks of weights. -/
def products (s : Fin 2) (h : Fin 16) (k : FVec F S1024x1024 .f32 → Body F) : Body F :=
  ldRows s fun x =>
  ldCol s (c := 4 * h.val) (by omega) fun g₀ => ldW 0 fun w₀ =>
  ldCol s (c := 4 * h.val + 1) (by omega) fun g₁ => ldW 1 fun w₁ =>
  ldCol s (c := 4 * h.val + 2) (by omega) fun g₂ => ldW 2 fun w₂ =>
  ldCol s (c := 4 * h.val + 3) (by omega) fun g₃ => ldW 3 fun w₃ =>
  k (four x g₀ w₀ g₁ w₁ g₂ w₂ g₃ w₃)

/-- Slot `s` of the partial sums gets the device's products of step `0`. -/
def firstSum (k : Body F) : Body F :=
  products 0 0 fun v => ldA 0 fun _ => stA 0 (shapeCast S1x1024x1024 v shapeCasts_S1024x1024_S1x1024x1024) k

/-- Slot `s` of the partial sums gets the device's products of step `h` added. -/
def addSum (s : Fin 2) (h : Fin 16) (k : Body F) : Body F :=
  products s h fun v => ldA s fun a => ldA s fun _ =>
    stA s (shapeCast S1x1024x1024 (addf (shapeCast S1024x1024 a shapeCasts_S1x1024x1024_S1024x1024) v)
      shapeCasts_S1024x1024_S1x1024x1024) k

/-- The two copies of a step, from slot `s` to slot `r` of device `n`, and the four waits. -/
def exchange (s r : Fin 2) (n n' : Dev nD) (k : Body F) : Body F := do
  Prog.lift (.enqueueDma (xSlot s) (.remote (Dev.tc n) (xSlot r) (.dma (xSend s))) (.dma (xRecv r))
    ((View.wordExact_bits rfl).reshape _ _) ((View.wordExact_bits rfl).reshape _ _) ⟨⟨rfl, Or.inl rfl⟩, trivial⟩)
  Prog.lift (.enqueueDma (aSlot s) (.remote (Dev.tc n') (aSlot r) (.dma (aSend s))) (.dma (aRecv r))
    ((View.wordExact_bits rfl).reshape _ _) ((View.wordExact_bits rfl).reshape _ _) ⟨⟨rfl, Or.inl rfl⟩, trivial⟩)
  Prog.lift (.waitDma2 (xSend s) (xSlot r) (xSlot s) ((View.wordExact_bits rfl).reshape _ _) ((View.wordExact_bits rfl).reshape _ _))
  Prog.lift (.waitDma2 (xRecv r) (xSlot s) (xSlot r) ((View.wordExact_bits rfl).reshape _ _) ((View.wordExact_bits rfl).reshape _ _))
  Prog.lift (.waitDma2 (aSend s) (aSlot r) (aSlot s) ((View.wordExact_bits rfl).reshape _ _) ((View.wordExact_bits rfl).reshape _ _))
  Prog.lift (.waitDma2 (aRecv r) (aSlot s) (aSlot r) ((View.wordExact_bits rfl).reshape _ _) ((View.wordExact_bits rfl).reshape _ _))
  k

def giveCredit (n : Dev nD) (k : Body F) : Body F := do
  semSignalWord n credS 1#32
  k

def takeCredit (k : Body F) : Body F := do
  semWaitWord credS 1#32
  k

/-- The rendezvous at the start, and this device's rows put into slot `0`. -/
def start (l r : Dev nD) (k : Body F) : Body F := do
  semSignalWord l barS 1#32
  semSignalWord r barS 1#32
  semWaitWord barS 2#32
  let v ← Prog.lift (.load xIn (Rect.unit (s := S1024x576) ![0, 0] S1024x576.size inb_S1024x576_S1024x576_0_0).toLoadRect
    (View.loadsAt_vmem h_S1024x576))
  let _ ← Prog.lift (.load xBuf (rX 0).toLoadRect (View.loadsAt_vmem h_S1x1024x576))
  Prog.lift (.store xBuf (rX 0) (shapeCast S1x1024x576 (shapeCast S1024x576 v shapeCasts_S1024x576_S1024x576)
    shapeCasts_S1024x576_S1x1024x576) Finset.univ (View.stores_vmem_bits_univ h_S1x1024x576 rfl) (.inl rfl))
  k

/-- The finished sums go to the right neighbour's result, and the left neighbour's arrive in this device's. -/
def finish (n : Dev nD) (k : Body F) : Body F := do
  Prog.lift (.enqueueDma (aSlot 1) (.remote (Dev.tc n) yOut (.dma ySend)) (.dma yRecv)
    ((View.wordExact_bits rfl).reshape _ _) (View.wordExact_bits rfl) ⟨⟨rfl, Or.inl rfl⟩, trivial⟩)
  Prog.lift (.waitDma2 ySend yOut (aSlot 1) (View.wordExact_bits rfl) ((View.wordExact_bits rfl).reshape _ _))
  Prog.lift (.waitDma2 yRecv (aSlot 1) yOut ((View.wordExact_bits rfl).reshape _ _) (View.wordExact_bits rfl))
  k

/-! ## The walk -/

/-- The devices of the body in the order it names them: two of the rendezvous, then the two copies and the credit of each
step, and the last copy. -/
def devs : Fin 47 → Dev nD → Dev nD :=
  ![fun d => ⟨k0_dev1 d, k0_dev1_lt d⟩,
    fun d => ⟨k0_dev2 d, k0_dev2_lt d⟩,
    fun d => ⟨k0_dev3 d, k0_dev3_lt d⟩,
    fun d => ⟨k0_dev4 d, k0_dev4_lt d⟩,
    fun d => ⟨k0_dev5 d, k0_dev5_lt d⟩,
    fun d => ⟨k0_dev6 d, k0_dev6_lt d⟩,
    fun d => ⟨k0_dev7 d, k0_dev7_lt d⟩,
    fun d => ⟨k0_dev8 d, k0_dev8_lt d⟩,
    fun d => ⟨k0_dev9 d, k0_dev9_lt d⟩,
    fun d => ⟨k0_dev10 d, k0_dev10_lt d⟩,
    fun d => ⟨k0_dev11 d, k0_dev11_lt d⟩,
    fun d => ⟨k0_dev12 d, k0_dev12_lt d⟩,
    fun d => ⟨k0_dev13 d, k0_dev13_lt d⟩,
    fun d => ⟨k0_dev14 d, k0_dev14_lt d⟩,
    fun d => ⟨k0_dev15 d, k0_dev15_lt d⟩,
    fun d => ⟨k0_dev16 d, k0_dev16_lt d⟩,
    fun d => ⟨k0_dev17 d, k0_dev17_lt d⟩,
    fun d => ⟨k0_dev18 d, k0_dev18_lt d⟩,
    fun d => ⟨k0_dev19 d, k0_dev19_lt d⟩,
    fun d => ⟨k0_dev20 d, k0_dev20_lt d⟩,
    fun d => ⟨k0_dev21 d, k0_dev21_lt d⟩,
    fun d => ⟨k0_dev22 d, k0_dev22_lt d⟩,
    fun d => ⟨k0_dev23 d, k0_dev23_lt d⟩,
    fun d => ⟨k0_dev24 d, k0_dev24_lt d⟩,
    fun d => ⟨k0_dev25 d, k0_dev25_lt d⟩,
    fun d => ⟨k0_dev26 d, k0_dev26_lt d⟩,
    fun d => ⟨k0_dev27 d, k0_dev27_lt d⟩,
    fun d => ⟨k0_dev28 d, k0_dev28_lt d⟩,
    fun d => ⟨k0_dev29 d, k0_dev29_lt d⟩,
    fun d => ⟨k0_dev30 d, k0_dev30_lt d⟩,
    fun d => ⟨k0_dev31 d, k0_dev31_lt d⟩,
    fun d => ⟨k0_dev32 d, k0_dev32_lt d⟩,
    fun d => ⟨k0_dev33 d, k0_dev33_lt d⟩,
    fun d => ⟨k0_dev34 d, k0_dev34_lt d⟩,
    fun d => ⟨k0_dev35 d, k0_dev35_lt d⟩,
    fun d => ⟨k0_dev36 d, k0_dev36_lt d⟩,
    fun d => ⟨k0_dev37 d, k0_dev37_lt d⟩,
    fun d => ⟨k0_dev38 d, k0_dev38_lt d⟩,
    fun d => ⟨k0_dev39 d, k0_dev39_lt d⟩,
    fun d => ⟨k0_dev40 d, k0_dev40_lt d⟩,
    fun d => ⟨k0_dev41 d, k0_dev41_lt d⟩,
    fun d => ⟨k0_dev42 d, k0_dev42_lt d⟩,
    fun d => ⟨k0_dev43 d, k0_dev43_lt d⟩,
    fun d => ⟨k0_dev44 d, k0_dev44_lt d⟩,
    fun d => ⟨k0_dev45 d, k0_dev45_lt d⟩,
    fun d => ⟨k0_dev46 d, k0_dev46_lt d⟩,
    fun d => ⟨k0_dev47 d, k0_dev47_lt d⟩]

/-- The slot the rows and the sums of step `h` live in. -/
abbrev slot (h : ℕ) : Fin 2 := ⟨h % 2, Nat.mod_lt _ (by omega)⟩

/-- The last `m + 1` steps on a device, then the last copy; `dv` says which device each operation names. Step `n + 1` sends
from slot `n % 2` into slot `(n + 1) % 2`; every step but the last gives a credit and then awaits the next. -/
def walkWith (dv : ℕ → Dev nD) : ℕ → Body F
  | 0 => exchange (slot 14) (slot 15) (dv 44) (dv 45) (addSum (slot 15) 15 (finish (dv 46) (pure ⟨⟩)))
  | m + 1 =>
    exchange (slot (13 - m)) (slot (13 - m + 1)) (dv (3 * (13 - m) + 2)) (dv (3 * (13 - m) + 3))
      (giveCredit (dv (3 * (13 - m) + 4)) (addSum (slot (13 - m + 1)) ⟨13 - m + 1, by omega⟩ (takeCredit (walkWith dv m))))

/-- The whole body. -/
def bodyWith (dv : Dev nD → ℕ → Dev nD) : Body F := do
  let d : Dev nD ← Prog.lift .deviceId
  start (dv d 0) (dv d 1) (firstSum (walkWith (dv d) 14))

def devOf (d : Dev nD) (n : ℕ) : Dev nD := if h : n < 47 then devs ⟨n, h⟩ d else d

set_option maxRecDepth 65536 in
set_option maxHeartbeats 4000000 in
theorem body_eq :
    cc0_body (F := F) xIn (Memref.isWhole_whole _) wIn (Memref.isWhole_whole _) yOut (Memref.isWhole_whole _)
      xBuf (Memref.isWhole_whole _) aBuf (Memref.isWhole_whole _) cc0_scratch2 cc0_scratch3 cc0_scratch4 cc0_scratch5
      cc0_scratch6 cc0_scratch7 cc0_scratch8 = bodyWith devOf := by
  rfl

/-! ## The ring -/

set_option backward.proofsInPublic true in
/-- The neighbours of a device. -/
def right (c : Dev nD) : Dev nD := ⟨(c.val + 1) % 16, Nat.mod_lt _ (by decide)⟩
set_option backward.proofsInPublic true in
def left (c : Dev nD) : Dev nD := ⟨(c.val + 15) % 16, Nat.mod_lt _ (by decide)⟩

theorem left_right : ∀ c : Dev nD, left (right c) = c := by decide
theorem right_left : ∀ c : Dev nD, right (left c) = c := by decide
theorem right_ne : ∀ c : Dev nD, right c ≠ c := by decide

/-- The ring as a permutation of the devices. -/
def ring : Dev nD ≃ Dev nD := ⟨right, left, left_right, right_left⟩

/-- Which operations name the right neighbour. -/
def isRight (n : ℕ) : Bool := n == 46 || n == 1 || (n != 0 && n % 3 != 1)

set_option maxRecDepth 65536 in
theorem devs_eq : ∀ (i : Fin 47) (d : Dev nD), devs i d = if isRight i.val then right d else left d := by decide +kernel

theorem devOf_right {d : Dev nD} {n : ℕ} (h : n < 47) (hr : isRight n = true) : devOf d n = right d := by
  rw [devOf, dif_pos h, devs_eq, if_pos hr]

theorem devOf_left {d : Dev nD} {n : ℕ} (h : n < 47) (hr : isRight n = false) : devOf d n = left d := by
  rw [devOf, dif_pos h, devs_eq, if_neg (by rw [hr]; decide)]

end Cert.KernelIdeal.Ring

end
-- ==== Proof.KernelIdeal.Schedule.lean ====
/- Who hands what to whom: the schedule of the semaphores.

Every device owns twelve cells. Slot `s` has four: its rows sent and arrived, its partial sums sent and arrived; the last
copy has two; and there are the credit and the barrier. Step `h` sends from slot `(h+1) % 2` into slot `h % 2` of the right
neighbour, so each slot's cells see one step in two, and step `h` is round `(h-1)/2` of the four cells it uses.

The device must know that the slot it writes at the right neighbour is free: at step 1 the barrier says so, from step 2 the
credit of the step before. What travels with each is the slot itself. -/
module

public import proofs.«01_k».proof.Proof.KernelIdeal.Program
public import Idealize.ShloMosaic.Lib.Pipeline.Launch
public import Idealize.ShloMosaic.Lib.ValueLayout
public import Idealize.ShloMosaic.Lib.Tactic

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- The staging cells' rounds and the ring's rounds, side by side. -/
abbrev UP : Type := URounds (GSem nD τ sig) Unit
abbrev UQ : Type := URounds (GSem nD τ sig) Bool
abbrev UU : Type := UP × UQ

local notation "𝕄" => MT nD τ sig ℕ (Elt F) ℕ UU ℕ

def EP : Emb UP (MT nD τ sig ℕ (Elt F) ℕ UU ℕ) :=
  (Emb.inl : Emb UP UU).trans (uEmb (nD := nD) (sig := sig) (Ix := ℕ) (Val := Elt F) (Name := ℕ) (U := UU) (Lvl := ℕ)).toEmb
def ER : Emb UQ (MT nD τ sig ℕ (Elt F) ℕ UU ℕ) :=
  (Emb.inr : Emb UQ UU).trans (uEmb (nD := nD) (sig := sig) (Ix := ℕ) (Val := Elt F) (Name := ℕ) (U := UU) (Lvl := ℕ)).toEmb

instance EP_landsIn : (EP : Emb UP 𝕄).LandsIn (upEmb : UEmb _ 𝕄) := by unfold EP; infer_instance
instance ER_landsIn : (ER : Emb UQ 𝕄).LandsIn (upEmb : UEmb _ 𝕄) := by unfold ER; infer_instance

/-! ## The values -/

/-- The rows' columns of a block. -/
def rows (X : FVec F S1024x576 .f32) : Vec F S1x1024x512 .f32 :=
  fun i => X (ix2 (⟨(i 1).val, (i 1).isLt⟩ : Fin 1024) (⟨(i 2).val, lt_trans (i 2).isLt (by show 512 < 576; omega)⟩ : Fin 576))
/-- Routing column `k` of a block. -/
def col (k : ℕ) (X : FVec F S1024x576 .f32) : Vec F S1x1024x1 .f32 :=
  fun i => X (ix2 (⟨(i 1).val, (i 1).isLt⟩ : Fin 1024) (⟨(512 + k) % 576, Nat.mod_lt _ (by omega)⟩ : Fin 576))
/-- Expert `j`'s block of a device's weights. -/
def wBlock (j : Fin 4) (w : FVec F S2048x1024 .f32) : Vec F S512x1024 .f32 :=
  fun i => w ((Rect.unit (s := S2048x1024) ![512 * j.val, 0] S512x1024.size (inbW j)).emb i)

/-- What step `h` adds to the partial sums that travel with block `X`. -/
def part (h : ℕ) (X : FVec F S1024x576 .f32) (w : FVec F S2048x1024 .f32) : FVec F S1024x1024 .f32 :=
  four (rows X) (col (4 * h) X) (wBlock 0 w) (col (4 * h + 1) X) (wBlock 1 w) (col (4 * h + 2) X) (wBlock 2 w)
    (col (4 * h + 3) X) (wBlock 3 w)

section Values

variable (xw : Dev nD → FVec F S1024x576 .f32) (w : Dev nD → FVec F S2048x1024 .f32)

/-- The rows device `c` has at step `h`: those of the device `h` places to the left. -/
def X : ℕ → Dev nD → FVec F S1024x576 .f32
  | 0, c => xw c
  | h + 1, c => X h (left c)

/-- The partial sums device `c` has after step `h`. -/
def A : ℕ → Dev nD → FVec F S1024x1024 .f32
  | 0, c => part 0 (xw c) (w c)
  | h + 1, c => addf (A h (left c)) (part (h + 1) (X xw (h + 1) c) (w c))

end Values

/-! ## The cells -/

abbrev dcell (c : Dev nD) (q : DmaSem sig) : GSem nD τ sig := ((c : Thread nD τ), .dma q)
abbrev rcell (c : Dev nD) (q : Sem sig) : GSem nD τ sig := ((c : Thread nD τ), .reg q)

/-- What a copy of the rows and of the partial sums credits. -/
abbrev Nx : ℕ := (xSlot 0).view.dmaCredit
abbrev Na : ℕ := (aSlot 0).view.dmaCredit
theorem Nx_pos : 0 < Nx := View.dmaCredit_pos _ (by decide)
theorem Na_pos : 0 < Na := View.dmaCredit_pos _ (by decide)

/-! ## What is held of a slot -/

/-- Elements of a buffer held at some contents of which `P`. -/
def heldAt (ℓ : Loc nD τ sig) (S : Finset (Idx ℓ)) (P : Buf (Elt F) ℓ → Prop) : sProp 𝕄 :=
  iprop(∃ f : Buf (Elt F) ℓ, (ℓ ↦[S]{fullShare} f) ∗ ⌜P f⌝)

omit [FloatOps F] in
instance heldAt_storable (ℓ : Loc nD τ sig) (S : Finset (Idx ℓ)) (P : Buf (Elt F) ℓ → Prop) :
    BI.Storable (upEmb : UEmb _ 𝕄) (heldAt ℓ S P) := by unfold heldAt; infer_instance

omit [FloatOps F] in
theorem heldAt_mono (ℓ : Loc nD τ sig) (S : Finset (Idx ℓ)) {P Q : Buf (Elt F) ℓ → Prop} (h : ∀ f, P f → Q f) :
    heldAt ℓ S P ⊢ heldAt ℓ S Q := by
  unfold heldAt; iintro ⟨%f, H, %hf⟩; iexists f; isplitl [H]; · iexact H
  ipureintro; exact h f hf

/-- Slot `s` of device `c` at contents `v`, and at any contents. -/
def xAt (c : Dev nD) (s : Fin 2) (v : FVec F S1024x576 .f32) : sProp 𝕄 :=
  heldAt ((xSlot s).view.loc (c : Thread nD τ)) (xSlot s).view.set (fun f => (xSlot s).view.read (Elt F) f = v)
def aAt (c : Dev nD) (s : Fin 2) (v : FVec F S1024x1024 .f32) : sProp 𝕄 :=
  heldAt ((aSlot s).view.loc (c : Thread nD τ)) (aSlot s).view.set (fun f => (aSlot s).view.read (Elt F) f = v)
def xAny (c : Dev nD) (s : Fin 2) : sProp 𝕄 :=
  heldAt (F := F) ((xSlot s).view.loc (c : Thread nD τ)) (xSlot s).view.set (fun _ => True)
def aAny (c : Dev nD) (s : Fin 2) : sProp 𝕄 :=
  heldAt (F := F) ((aSlot s).view.loc (c : Thread nD τ)) (aSlot s).view.set (fun _ => True)
/-- The staged result of device `c`. -/
def yAt (c : Dev nD) (v : FVec F S1024x1024 .f32) : sProp 𝕄 :=
  heldAt (yOut.view.loc (c : Thread nD τ)) yOut.view.set (fun f => yOut.view.read (Elt F) f = v)
def yAny (c : Dev nD) : sProp 𝕄 :=
  heldAt (F := F) (yOut.view.loc (c : Thread nD τ)) yOut.view.set (fun _ => True)

omit [FloatOps F] in
theorem xAt_any (c : Dev nD) (s : Fin 2) (v : FVec F S1024x576 .f32) : xAt c s v ⊢ xAny (F := F) c s :=
  heldAt_mono _ _ fun _ _ => trivial
omit [FloatOps F] in
theorem aAt_any (c : Dev nD) (s : Fin 2) (v : FVec F S1024x1024 .f32) : aAt c s v ⊢ aAny (F := F) c s :=
  heldAt_mono _ _ fun _ _ => trivial

omit [FloatOps F] in
instance (c : Dev nD) (s : Fin 2) (v : FVec F S1024x576 .f32) : BI.Storable (upEmb : UEmb _ 𝕄) (xAt c s v) :=
  heldAt_storable _ _ _
omit [FloatOps F] in
instance (c : Dev nD) (s : Fin 2) (v : FVec F S1024x1024 .f32) : BI.Storable (upEmb : UEmb _ 𝕄) (aAt c s v) :=
  heldAt_storable _ _ _
omit [FloatOps F] in
instance (c : Dev nD) (s : Fin 2) : BI.Storable (upEmb : UEmb _ 𝕄) (xAny (F := F) c s) := heldAt_storable _ _ _
omit [FloatOps F] in
instance (c : Dev nD) (s : Fin 2) : BI.Storable (upEmb : UEmb _ 𝕄) (aAny (F := F) c s) := heldAt_storable _ _ _
omit [FloatOps F] in
instance (c : Dev nD) (v : FVec F S1024x1024 .f32) : BI.Storable (upEmb : UEmb _ 𝕄) (yAt c v) := heldAt_storable _ _ _
omit [FloatOps F] in
instance (c : Dev nD) : BI.Storable (upEmb : UEmb _ 𝕄) (yAny (F := F) c) := heldAt_storable _ _ _

/-! ## The schedule -/

/-- The kind of a DMA cell, by its number: `2` rows sent, `3` rows arrived, `4` sums sent, `5` sums arrived, `6` the last
copy; and its slot. -/
def kindOf (q : DmaSem sig) : ℕ := (q.val + 1) / 2
def slotOf (q : DmaSem sig) : Fin 2 := ⟨(q.val + 1) % 2, Nat.mod_lt _ (by omega)⟩

/-- The step that round `r` of a cell belongs to: of a cell of sending, and of a cell of arrival. -/
def sendStep (s : Fin 2) (r : ℕ) : ℕ := 2 * r + 1 + s.val
def recvStep (s : Fin 2) (r : ℕ) : ℕ := 2 * r + 2 - s.val

def dutyOf : SemLoc sig → ℕ → Finset Bool
  | .reg q, r => if q.val = 0 then (if r < 14 then {true} else ∅) else (if r = 0 then {true, false} else ∅)
  | .dma q, r =>
    match kindOf q with
    | 2 => if sendStep (slotOf q) r ≤ 15 then {true} else ∅
    | 3 => if recvStep (slotOf q) r ≤ 15 then {true} else ∅
    | 4 => if sendStep (slotOf q) r ≤ 15 then {true} else ∅
    | 5 => if recvStep (slotOf q) r ≤ 15 then {true} else ∅
    | 6 => if r = 0 then {true} else ∅
    | _ => ∅

def amountOf : SemLoc sig → ℕ
  | .reg _ => 1
  | .dma q => match kindOf q with | 2 => Nx | 3 => Nx | _ => Na

section Sched

variable (xw : Dev nD → FVec F S1024x576 .f32) (w : Dev nD → FVec F S2048x1024 .f32)

/-- What a free pair of slots at device `n` is: the slots, with the rounds of their cells the next copies will pay. -/
def freeAt (n : Dev nD) (s : Fin 2) (r : ℕ) : sProp 𝕄 :=
  iprop((xAny n s ∗ aAny n s) ∗ reached ER (dcell n (xRecv s)) r ∗ reached ER (dcell n (aRecv s)) r)

/-- What the right neighbour `n`'s arrival at the barrier hands over: its slots `1` and its result buffer. -/
def barPay (n : Dev nD) : sProp 𝕄 :=
  iprop(freeAt n 1 0 ∗ yAny n ∗ reached ER (dcell n yRecv) 0)

def payOf (c : Dev nD) : SemLoc sig → ℕ → Bool → sProp 𝕄
  | .reg q, r, d =>
    if q.val = 0 then freeAt (right c) (slot r) ((r + 1) / 2)
    else if d then barPay (right c) else iprop(emp)
  | .dma q, r, _ =>
    match kindOf q with
    | 2 => xAt c (slotOf q) (X xw (sendStep (slotOf q) r - 1) c)
    | 3 => iprop(xAt c (slotOf q) (X xw (recvStep (slotOf q) r) c) ∗ reached ER (rcell (left c) credS) (recvStep (slotOf q) r - 1))
    | 4 => aAt c (slotOf q) (A xw w (sendStep (slotOf q) r - 1) c)
    | 5 => aAt c (slotOf q) (A xw w (recvStep (slotOf q) r - 1) (left c))
    | 6 => if (slotOf q).val = 0 then aAt c 1 (A xw w 15 c) else yAt c (A xw w 15 (left c))
    | _ => iprop(emp)

def ringRd : Rounds.Schedule (GSem nD τ sig) Bool 𝕄 where
  duties g r := if g.1.2 = .tc then dutyOf g.2 r else ∅
  unitless _ := False
  amount g _ _ := amountOf g.2
  payload g r d := payOf xw w g.1.1 g.2 r d
  amount_pos g _ _ _ := by
    show 0 < amountOf g.2
    unfold amountOf
    split
    · exact Nat.one_pos
    · split <;> first | exact Nx_pos | exact Na_pos

instance ringRd_storable (g : GSem nD τ sig) (r : ℕ) (d : Bool) :
    BI.Storable (upEmb : UEmb _ 𝕄) ((ringRd xw w).payload g r d) := by
  show BI.Storable upEmb (payOf xw w g.1.1 g.2 r d)
  unfold payOf freeAt barPay freeAt
  (repeat' split) <;> infer_instance

/-! ### The schedule, computed -/

variable (c : Dev nD) (s : Fin 2) (r : ℕ)

theorem kinds : kindOf (xSend s) = 2 ∧ kindOf (xRecv s) = 3 ∧ kindOf (aSend s) = 4 ∧ kindOf (aRecv s) = 5 := by
  revert s; decide
theorem slots : slotOf (xSend s) = s ∧ slotOf (xRecv s) = s ∧ slotOf (aSend s) = s ∧ slotOf (aRecv s) = s := by
  revert s; decide

theorem duties_tc (sm : SemLoc sig) : (ringRd xw w).duties ((c : Thread nD τ), sm) r = dutyOf sm r := by
  dsimp only [ringRd]; exact if_pos rfl

theorem duty_xSend (h : sendStep s r ≤ 15) : (ringRd xw w).duties (dcell c (xSend s)) r = {true} := by
  rw [duties_tc, dutyOf, (kinds s).1]; simp only [(slots s).1, if_pos h]
theorem duty_xRecv (h : recvStep s r ≤ 15) : (ringRd xw w).duties (dcell c (xRecv s)) r = {true} := by
  rw [duties_tc, dutyOf, (kinds s).2.1]; simp only [(slots s).2.1, if_pos h]
theorem duty_aSend (h : sendStep s r ≤ 15) : (ringRd xw w).duties (dcell c (aSend s)) r = {true} := by
  rw [duties_tc, dutyOf, (kinds s).2.2.1]; simp only [(slots s).2.2.1, if_pos h]
theorem duty_aRecv (h : recvStep s r ≤ 15) : (ringRd xw w).duties (dcell c (aRecv s)) r = {true} := by
  rw [duties_tc, dutyOf, (kinds s).2.2.2]; simp only [(slots s).2.2.2, if_pos h]
theorem duty_ySend : (ringRd xw w).duties (dcell c ySend) 0 = {true} := rfl
theorem duty_yRecv : (ringRd xw w).duties (dcell c yRecv) 0 = {true} := rfl
theorem duty_cred (h : r < 14) : (ringRd xw w).duties (rcell c credS) r = {true} := by
  rw [duties_tc, dutyOf, if_pos rfl, if_pos h]
theorem duty_bar : (ringRd xw w).duties (rcell c barS) 0 = {true, false} := rfl

theorem amount_xSend (d : Bool) : (ringRd xw w).amount (dcell c (xSend s)) r d = Nx := by fin_cases s <;> rfl
theorem amount_xRecv (d : Bool) : (ringRd xw w).amount (dcell c (xRecv s)) r d = Nx := by fin_cases s <;> rfl
theorem amount_aSend (d : Bool) : (ringRd xw w).amount (dcell c (aSend s)) r d = Na := by fin_cases s <;> rfl
theorem amount_aRecv (d : Bool) : (ringRd xw w).amount (dcell c (aRecv s)) r d = Na := by fin_cases s <;> rfl
theorem amount_ySend (d : Bool) : (ringRd xw w).amount (dcell c ySend) r d = Na := rfl
theorem amount_yRecv (d : Bool) : (ringRd xw w).amount (dcell c yRecv) r d = Na := rfl
theorem amount_reg (q : Sem sig) (d : Bool) : (ringRd xw w).amount (rcell c q) r d = 1 := rfl

theorem pay_xSend (d : Bool) : (ringRd xw w).payload (dcell c (xSend s)) r d = xAt c s (X xw (sendStep s r - 1) c) := by
  fin_cases s <;> rfl
theorem pay_xRecv (d : Bool) : (ringRd xw w).payload (dcell c (xRecv s)) r d
    = iprop(xAt c s (X xw (recvStep s r) c) ∗ reached ER (rcell (left c) credS) (recvStep s r - 1)) := by
  fin_cases s <;> rfl
theorem pay_aSend (d : Bool) : (ringRd xw w).payload (dcell c (aSend s)) r d = aAt c s (A xw w (sendStep s r - 1) c) := by
  fin_cases s <;> rfl
theorem pay_aRecv (d : Bool) : (ringRd xw w).payload (dcell c (aRecv s)) r d = aAt c s (A xw w (recvStep s r - 1) (left c)) := by
  fin_cases s <;> rfl
theorem pay_ySend (d : Bool) : (ringRd xw w).payload (dcell c ySend) r d = aAt c 1 (A xw w 15 c) := rfl
theorem pay_yRecv (d : Bool) : (ringRd xw w).payload (dcell c yRecv) r d = yAt c (A xw w 15 (left c)) := rfl
theorem pay_cred (d : Bool) : (ringRd xw w).payload (rcell c credS) r d = freeAt (right c) (slot r) ((r + 1) / 2) := rfl
theorem pay_bar : (ringRd xw w).payload (rcell c barS) r true = barPay (right c)
    ∧ (ringRd xw w).payload (rcell c barS) r false = iprop(emp) := ⟨rfl, rfl⟩

/-- A round of one duty: what it waits for, and what it hands over. -/
theorem expect_one {g : GSem nD τ sig} (h : (ringRd xw w).duties g r = {true}) :
    (ringRd xw w).expect g r = (ringRd xw w).amount g r true := by
  unfold Schedule.expect Schedule.amountOf; rw [h, Finset.sum_singleton]
theorem rest_one {g : GSem nD τ sig} (h : (ringRd xw w).duties g r = {true}) :
    bigSep ((ringRd xw w).duties g r \ ∅) (fun d => (ringRd xw w).payload g r d) = (ringRd xw w).payload g r true := by
  rw [Finset.sdiff_empty, h, bigSep_singleton]

theorem expect_bar : (ringRd xw w).expect (rcell c barS) 0 = 2 := by
  unfold Schedule.expect Schedule.amountOf; rw [duty_bar]; rfl
theorem rest_bar :
    bigSep ((ringRd xw w).duties (rcell c barS) 0 \ ∅) (fun d => (ringRd xw w).payload (rcell c barS) 0 d)
      ⊢ barPay (F := F) (right c) := by
  rw [Finset.sdiff_empty, duty_bar, bigSep_insert (by decide), (pay_bar xw w c 0).1]
  exact sep_elim_left

/-- When each cell is through. -/
theorem over_xSend (h : 16 ≤ sendStep s r) : ∀ r', r ≤ r' → (ringRd xw w).duties (dcell c (xSend s)) r' = ∅ := by
  intro r' hr
  rw [duties_tc, dutyOf, (kinds s).1]; simp only [(slots s).1]
  exact if_neg (by unfold sendStep at h ⊢; omega)
theorem over_xRecv (h : 16 ≤ recvStep s r) : ∀ r', r ≤ r' → (ringRd xw w).duties (dcell c (xRecv s)) r' = ∅ := by
  intro r' hr
  rw [duties_tc, dutyOf, (kinds s).2.1]; simp only [(slots s).2.1]
  exact if_neg (by unfold recvStep at h ⊢; omega)
theorem over_aSend (h : 16 ≤ sendStep s r) : ∀ r', r ≤ r' → (ringRd xw w).duties (dcell c (aSend s)) r' = ∅ := by
  intro r' hr
  rw [duties_tc, dutyOf, (kinds s).2.2.1]; simp only [(slots s).2.2.1]
  exact if_neg (by unfold sendStep at h ⊢; omega)
theorem over_aRecv (h : 16 ≤ recvStep s r) : ∀ r', r ≤ r' → (ringRd xw w).duties (dcell c (aRecv s)) r' = ∅ := by
  intro r' hr
  rw [duties_tc, dutyOf, (kinds s).2.2.2]; simp only [(slots s).2.2.2]
  exact if_neg (by unfold recvStep at h ⊢; omega)
theorem over_y (q : DmaSem sig) (hq : kindOf q = 6) : ∀ r', 1 ≤ r' → (ringRd xw w).duties (dcell c q) r' = ∅ := by
  intro r' hr
  rw [duties_tc, dutyOf, hq]; exact if_neg (by omega)
theorem over_cred : ∀ r', 14 ≤ r' → (ringRd xw w).duties (rcell c credS) r' = ∅ := by
  intro r' hr
  rw [duties_tc, dutyOf, if_pos rfl, if_neg (by omega)]
theorem over_bar : ∀ r', 1 ≤ r' → (ringRd xw w).duties (rcell c barS) r' = ∅ := by
  intro r' hr
  rw [duties_tc, dutyOf, if_neg (by show ¬ (1 : ℕ) = 0; omega), if_neg (by omega)]

end Sched

end Cert.KernelIdeal.Ring

end
-- ==== Proof.KernelIdeal.Owed.lean ====
/- What each device still owes, and why its waits end.

A device owes its right neighbour the two copies of every step to come, its left neighbour the credit of every step but the
last, and the result copy. A unit owed at step `h` carries the index of the step that waits for it, and the level of that
index: a wait then lies below everything its device still owes. -/
module

public import proofs.«01_k».proof.Proof.KernelIdeal.Schedule

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The indices of a cell, and their levels: a credit lies just below the copies of the step that waits for it. -/
def L (g : GSem nD τ sig) : Finset ℕ := if g.1.2 = .tc then Finset.range 18 else ∅
def lv (g : GSem nD τ sig) (i : ℕ) : ℕ := if g.2 = .reg credS then 2 * i else 2 * i + 1

theorem L_of_ne (g : GSem nD τ sig) (h : g.1.2 ≠ .tc) : L g = ∅ := if_neg h
theorem mem_L (c : Dev nD) (sm : SemLoc sig) {i : ℕ} (h : i < 18) : i ∈ L ((c : Thread nD τ), sm) := by
  rw [L, if_pos rfl]; exact Finset.mem_range.mpr h

/-- The copies of the steps from `h` on. -/
def owedX (c : Dev nD) (h : ℕ) : CellTallies nD τ sig ℕ :=
  ∑ j ∈ Finset.Ico h 16, (tallyAt (dcell (right c) (xRecv (slot j))) (j + 1) Nx + tallyAt (dcell (right c) (aRecv (slot j))) (j + 1) Na)
/-- The credits of the steps from `h` on. -/
def owedC (c : Dev nD) (h : ℕ) : CellTallies nD τ sig ℕ :=
  ∑ j ∈ Finset.Ico h 15, tallyAt (rcell (left c) credS) (j + 2) 1
/-- What is owed with the copies from `h` and the credits from `k` on to come. -/
def owed (c : Dev nD) (h k : ℕ) : CellTallies nD τ sig ℕ :=
  owedX c h + owedC c k + tallyAt (dcell (right c) yRecv) 17 Na
/-- What is owed at launch: the barrier's two signals besides. -/
def owed₀ (c : Dev nD) : CellTallies nD τ sig ℕ :=
  owed c 1 1 + tallyAt (rcell (right c) barS) 1 1 + tallyAt (rcell (left c) barS) 1 1

theorem owedX_succ (c : Dev nD) {h : ℕ} (hh : h < 16) :
    owedX c h = owedX c (h + 1) + tallyAt (dcell (right c) (aRecv (slot h))) (h + 1) Na
      + tallyAt (dcell (right c) (xRecv (slot h))) (h + 1) Nx := by
  unfold owedX; rw [Finset.sum_eq_sum_Ico_succ_bot hh]; abel
theorem owedC_succ (c : Dev nD) {h : ℕ} (hh : h < 15) :
    owedC c h = owedC c (h + 1) + tallyAt (rcell (left c) credS) (h + 2) 1 := by
  unfold owedC; rw [Finset.sum_eq_sum_Ico_succ_bot hh]; abel

/-- Paying the two copies of step `h`, the credit of step `h`, and the last copy. -/
theorem owed_sendX (c : Dev nD) {h : ℕ} (hh : h < 16) :
    owed c h h = (owed c (h + 1) h + tallyAt (dcell (right c) (aRecv (slot h))) (h + 1) Na)
      + tallyAt (dcell (right c) (xRecv (slot h))) (h + 1) Nx := by
  unfold owed; rw [owedX_succ c hh]; abel
theorem owed_cred (c : Dev nD) {h : ℕ} (hh : h < 15) :
    owed c (h + 1) h = owed c (h + 1) (h + 1) + tallyAt (rcell (left c) credS) (h + 2) 1 := by
  unfold owed; rw [owedC_succ c hh]; abel
theorem owed_last (c : Dev nD) : owed c 16 15 = owed c 16 16 := by
  unfold owed owedC; rw [Finset.Ico_self, Finset.Ico_eq_empty (by omega)]
theorem owed_end (c : Dev nD) : owed c 16 16 = 0 + tallyAt (dcell (right c) yRecv) 17 Na := by
  unfold owed owedX owedC; rw [Finset.Ico_self, Finset.Ico_eq_empty (by omega), Finset.sum_empty, Finset.sum_empty, add_zero]

/-! ## Levels -/

/-- Everything owed lies above level `n`. -/
def Above (n : ℕ) (O : CellTallies nD τ sig ℕ) : Prop := ∀ g u, 0 < O g u → u ∈ L g ∧ n < lv g u

theorem Above.zero (n : ℕ) : Above n 0 := fun _ _ h => absurd h (Nat.lt_irrefl 0)
theorem Above.add {n : ℕ} {O O' : CellTallies nD τ sig ℕ} (h : Above n O) (h' : Above n O') : Above n (O + O') := by
  intro g u hg
  rw [Pi.add_apply, Finsupp.add_apply] at hg
  rcases Nat.pos_iff_ne_zero.mp hg |> (fun hne => (Nat.eq_zero_or_pos (O g u)).imp_left fun h0 => by omega) with h0 | h0
  · exact h' g u (by omega)
  · exact h g u h0
theorem Above.sum {n : ℕ} {s : Finset ℕ} {f : ℕ → CellTallies nD τ sig ℕ} (h : ∀ j ∈ s, Above n (f j)) :
    Above n (∑ j ∈ s, f j) := by
  classical
  induction s using Finset.induction_on with
  | empty => rw [Finset.sum_empty]; exact Above.zero n
  | insert a s ha ih =>
    rw [Finset.sum_insert ha]
    exact (h a (Finset.mem_insert_self a s)).add (ih fun j hj => h j (Finset.mem_insert_of_mem hj))
theorem Above.tally {n : ℕ} (c : Dev nD) (sm : SemLoc sig) {i N : ℕ} (hi : i < 18) (hn : n < lv ((c : Thread nD τ), sm) i) :
    Above n (tallyAt ((c : Thread nD τ), sm) i N) := by
  intro g u hg
  rw [tallyAt_apply] at hg
  by_cases h : g = ((c : Thread nD τ), sm) ∧ u = i
  · obtain ⟨rfl, rfl⟩ := h; exact ⟨mem_L c sm hi, hn⟩
  · rw [if_neg h] at hg; exact absurd hg (Nat.lt_irrefl 0)

theorem lv_dma (c : Dev nD) (q : DmaSem sig) (i : ℕ) : lv (dcell c q) i = 2 * i + 1 := if_neg (fun h => by cases h)
theorem lv_cred (c : Dev nD) (i : ℕ) : lv (rcell c credS) i = 2 * i := if_pos rfl
theorem lv_bar (c : Dev nD) (i : ℕ) : lv (rcell c barS) i = 2 * i + 1 := if_neg fun h => absurd (SemLoc.reg.inj h) (by decide)

theorem above_owed (c : Dev nD) {n h k : ℕ} (hx : n < 2 * h + 3) (hk : n < 2 * k + 4) (hn : n < 35) : Above n (owed c h k) := by
  refine Above.add (Above.add (Above.sum fun j hj => ?_) (Above.sum fun j hj => ?_)) ?_
  · have := Finset.mem_Ico.mp hj
    exact (Above.tally _ _ (by omega) (by rw [lv_dma]; omega)).add (Above.tally _ _ (by omega) (by rw [lv_dma]; omega))
  · have := Finset.mem_Ico.mp hj
    exact Above.tally _ _ (by omega) (by rw [lv_cred]; omega)
  · exact Above.tally _ _ (by omega) (by rw [lv_dma]; omega)

theorem above_owed₀ (c : Dev nD) : Above 2 (owed₀ c) :=
  ((above_owed c (by omega) (by omega) (by omega)).add (Above.tally _ _ (by omega) (by rw [lv_bar]; omega))).add
    (Above.tally _ _ (by omega) (by rw [lv_bar]; omega))

omit [FloatOps F] in
/-- A device may wait at an index whose level lies below what it owes. -/
theorem mayWait (c : Dev nD) (sm : SemLoc sig) {i n : ℕ} (hi : i < 18) (hn : lv ((c : Thread nD τ), sm) i ≤ n)
    {O : CellTallies nD τ sig ℕ} (hO : Above n O) : (levAts L lv : sProp 𝕄) ⊢ MayWait (c : Thread nD τ) sm i O :=
  MayOwe.of_cut (L := L) (lev := lv) n (fun p hp => by rw [Finset.mem_singleton.mp hp]; exact mem_L c sm hi)
    (fun g u hg => (hO g u hg).1) (fun p hp => by rw [Finset.mem_singleton.mp hp]; exact hn) (fun g u hg => (hO g u hg).2)

end Cert.KernelIdeal.Ring

end
-- ==== Proof.KernelIdeal.Contents.lean ====
/- What the kernel's loads read and its stores leave, in terms of a slot's contents. -/
module

public import proofs.«01_k».proof.Proof.KernelIdeal.Schedule

@[expose] public section

noncomputable section

namespace Cert.KernelIdeal.Ring

open Cert.KernelIdeal Cert.KernelIdeal.Gen
open Idealize.ShloMosaic Idealize.ShloMosaic.TcCoe Idealize.ShloMosaic.ValueIdx
open Idealize.SL.Sem

variable {F : FTy → Type} [FloatOps F]

/-- Through a whole buffer, the elements named are the elements. -/
theorem whole_map (b : Ref sig .tc) (S : Finset b.ty.shape.Idx) : S.map (View.whole b).emb = S := by
  ext i
  exact ⟨fun h => by obtain ⟨a, ha, rfl⟩ := Finset.mem_map.mp h; exact ha, fun h => Finset.mem_map.mpr ⟨i, h, rfl⟩⟩

/-- An index of slot `s`, put back into the buffer. -/
theorem xSlot_emb (s : Fin 2) (a : Fin 1024) (b : Fin 576) :
    (xSlot s).view.emb (ix2 a b) = (ix3 s a b : S2x1024x576.Idx) := by
  show (rX s).emb (Shape.reshapeEquiv _ (ix2 a b)) = _
  rw [reshapeEquiv_ix2_1ab]
  funext x; apply Fin.ext; fin_cases x
  · show s.val + 1 * 0 = s.val; omega
  · show 0 + 1 * a.val = a.val; omega
  · show 0 + 1 * b.val = b.val; omega

theorem aSlot_emb (s : Fin 2) (a b : Fin 1024) :
    (aSlot s).view.emb (ix2 a b) = (ix3 s a b : S2x1024x1024.Idx) := by
  show (rA s).emb (Shape.reshapeEquiv _ (ix2 a b)) = _
  rw [reshapeEquiv_ix2_1ab]
  funext x; apply Fin.ext; fin_cases x
  · show s.val + 1 * 0 = s.val; omega
  · show 0 + 1 * a.val = a.val; omega
  · show 0 + 1 * b.val = b.val; omega

/-- The elements of a slot are those whose first coordinate is the slot. -/
theorem mem_xSlot (s : Fin 2) (i : S2x1024x576.Idx) : i ∈ (xSlot s).view.set ↔ (i 0).val = s.val := by
  rw [show (xSlot s).view.set = (xBuf.view.slice (rX s)).set from View.set_reshape _ _, View.set_slice]
  show i ∈ (rX s).set.map (View.whole cc0_scratch0).emb ↔ _
  rw [whole_map, Rect.mem_set_unit]
  constructor
  · intro h; have := h 0; simp at this; omega
  · intro h a; have hi := (i a).isLt; fin_cases a <;> simp at hi ⊢ <;> omega

theorem mem_aSlot (s : Fin 2) (i : S2x1024x1024.Idx) : i ∈ (aSlot s).view.set ↔ (i 0).val = s.val := by
  rw [show (aSlot s).view.set = (aBuf.view.slice (rA s)).set from View.set_reshape _ _, View.set_slice]
  show i ∈ (rA s).set.map (View.whole cc0_scratch1).emb ↔ _
  rw [whole_map, Rect.mem_set_unit]
  constructor
  · intro h; have := h 0; simp at this; omega
  · intro h a; have hi := (i a).isLt; fin_cases a <;> simp at hi ⊢ <;> omega

/-! ## The loads -/

theorem rows_sub (s : Fin 2) :
    xBuf.view.setOn (Rect.unit (s := S2x1024x576) ![s.val, 0, 0] S1x1024x512.size (inbRows s)).toLoadRect.set ⊆ (xSlot s).view.set := by
  intro i hi
  rw [mem_xSlot]
  have hi' : i ∈ (Rect.unit (s := S2x1024x576) ![s.val, 0, 0] S1x1024x512.size (inbRows s)).set := by
    rw [← whole_map cc0_scratch0 (LoadRect.set _)]; exact hi
  have := (Rect.mem_set_unit.mp hi') 0; simp at this; omega

theorem col_sub (s : Fin 2) {k : ℕ} (hk : k < 64) :
    xBuf.view.setOn (Rect.unit (s := S2x1024x576) ![s.val, 0, 512 + k] S1x1024x1.size (inbCol s hk)).toLoadRect.set ⊆ (xSlot s).view.set := by
  intro i hi
  rw [mem_xSlot]
  have hi' : i ∈ (Rect.unit (s := S2x1024x576) ![s.val, 0, 512 + k] S1x1024x1.size (inbCol s hk)).set := by
    rw [← whole_map cc0_scratch0 (LoadRect.set _)]; exact hi
  have := (Rect.mem_set_unit.mp hi') 0; simp at this; omega

theorem load_rows (s : Fin 2) (f : xBuf.view.ty.Contents (Elt F)) :
    xBuf.view.readAt (Elt F) (Rect.unit (s := S2x1024x576) ![s.val, 0, 0] S1x1024x512.size (inbRows s)).toLoadRect f
      = rows ((xSlot s).view.read (Elt F) f) := by
  funext j
  show f _ = f ((xSlot s).view.emb _)
  rw [xSlot_emb]
  congr 1
  funext x; apply Fin.ext
  have h0 : (j 0).val = 0 := by have := (j 0).isLt; simp at this; exact this
  fin_cases x
  · show s.val + 1 * (j 0).val = s.val; omega
  · show 0 + 1 * (j 1).val = (j 1).val; omega
  · show 0 + 1 * (j 2).val = (j 2).val; omega

theorem load_col (s : Fin 2) {k : ℕ} (hk : k < 64) (f : xBuf.view.ty.Contents (Elt F)) :
    xBuf.view.readAt (Elt F) (Rect.unit (s := S2x1024x576) ![s.val, 0, 512 + k] S1x1024x1.size (inbCol s hk)).toLoadRect f
      = col k ((xSlot s).view.read (Elt F) f) := by
  funext j
  show f _ = f ((xSlot s).view.emb _)
  rw [xSlot_emb]
  congr 1
  funext x; apply Fin.ext
  have h0 : (j 0).val = 0 := by have := (j 0).isLt; simp at this; exact this
  have h2 : (j 2).val = 0 := by have := (j 2).isLt; simp at this; exact this
  fin_cases x
  · show s.val + 1 * (j 0).val = s.val; omega
  · show 0 + 1 * (j 1).val = (j 1).val; omega
  · show 512 + k + 1 * (j 2).val = (512 + k) % 576; rw [Nat.mod_eq_of_lt (by omega)]; omega

theorem load_w (j : Fin 4) (f : wIn.view.ty.Contents (Elt F)) :
    wIn.view.readAt (Elt F) (Rect.unit (s := S2048x1024) ![512 * j.val, 0] S512x1024.size (inbW j)).toLoadRect f = wBlock j f := rfl

theorem load_x (f : xIn.view.ty.Contents (Elt F)) :
    xIn.view.readAt (Elt F) (Rect.unit (s := S1024x576) ![0, 0] S1024x576.size inb_S1024x576_S1024x576_0_0).toLoadRect f = f :=
  Memref.readAt_unit_zero (Elt F) cc0_stg0_0 (funext fun a => by fin_cases a <;> rfl) _ f

theorem sumSlot_sub (s : Fin 2) : aBuf.view.setOn (rA s).toLoadRect.set ⊆ (aSlot s).view.set := by
  intro i hi
  rw [mem_aSlot]
  have hi' : i ∈ (rA s).set := by rw [← whole_map cc0_scratch1 (LoadRect.set _)]; exact hi
  have := (Rect.mem_set_unit.mp hi') 0; simp at this; omega

theorem rowSlot_sub (s : Fin 2) : xBuf.view.setOn (rX s).toLoadRect.set ⊆ (xSlot s).view.set := by
  intro i hi
  rw [mem_xSlot]
  have hi' : i ∈ (rX s).set := by rw [← whole_map cc0_scratch0 (LoadRect.set _)]; exact hi
  have := (Rect.mem_set_unit.mp hi') 0; simp at this; omega

/-- The sums loaded and reshaped are the slot's contents. -/
theorem load_sums (s : Fin 2) (f : aBuf.view.ty.Contents (Elt F)) :
    shapeCast S1024x1024 (aBuf.view.readAt (Elt F) (rA s).toLoadRect f) shapeCasts_S1x1024x1024_S1024x1024
      = (aSlot s).view.read (Elt F) f := rfl

/-! ## The stores -/

theorem store_sub (s : Fin 2) : (aBuf.access (rA s)).setOn Finset.univ ⊆ (aSlot s).view.set := by
  rw [View.setOn_univ, show (aSlot s).view.set = (aBuf.view.slice (rA s)).set from View.set_reshape _ _]

theorem storeX_sub (s : Fin 2) : (xBuf.access (rX s)).setOn Finset.univ ⊆ (xSlot s).view.set := by
  rw [View.setOn_univ, show (xSlot s).view.set = (xBuf.view.slice (rX s)).set from View.set_reshape _ _]

theorem store_sums (s : Fin 2) (f : aBuf.view.ty.Contents (Elt F)) (v : FVec F S1024x1024 .f32) :
    (aSlot s).view.read (Elt F)
      ((aBuf.access (rA s)).write (Elt F) f (shapeCast S1x1024x1024 v shapeCasts_S1024x1024_S1x1024x1024) Finset.univ) = v := by
  have h := View.read_write_univ (Val := Elt F) (v := aBuf.access (rA s)) f (shapeCast S1x1024x1024 v shapeCasts_S1024x1024_S1x1024x1024)
  funext i
  show ((aBuf.access (rA s)).read (Elt F) _) (Shape.reshapeEquiv _ i) = v i
  rw [h]
  show v (Shape.reshapeEquiv _ (Shape.reshapeEquiv _ i)) = v i
  rw [Shape.reshapeEquiv_reshapeEquiv, Shape.reshapeEquiv_self]

theorem store_rows (s : Fin 2) (f : xBuf.view.ty.Contents (Elt F)) (v : FVec F S1024x576 .f32) :
    (xSlot s).view.read (Elt F)
      ((xBuf.access (rX s)).write (Elt F) f (shapeCast S1x1024x576 (shapeCast S1024x576 v shapeCasts_S1024x576_S1024x576)
        shapeCasts_S1024x576_S1x1024x576) Finset.univ) = v := by
  have h := View.read_write_univ (Val := Elt F) (v := xBuf.access (rX s)) f
    (shapeCast S1x1024x576 (shapeCast S1024x576 v shapeCasts_S1024x576_S1024x576) shapeCasts_S1024x576_S1x1024x576)
  funext i
  show ((xBuf.access (rX s)).read (Elt F) _) (Shape.reshapeEquiv _ i) = v i
  rw [h]
  show v (Shape.reshapeEquiv _ (Shape.reshapeEquiv _ (Shape.reshapeEquiv _ i))) = v i
  rw [Shape.reshapeEquiv_reshapeEquiv, Shape.reshapeEquiv_reshapeEquiv, Shape.reshapeEquiv_self]

end Cert.KernelIdeal.Ring

end
-- ==== Proof.KernelIdeal.Steps.lean ====
/- The operations of a step, each as one rule: a copy handed to the right neighbour, a wait for the one duty of a cell's round,
a signal, the loads and the store. -/
module

public import proofs.«01_k».proof.Proof.KernelIdeal.Owed
public import proofs.«01_k».proof.Proof.KernelIdeal.Contents

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-! ## The cells -/

/-- The kernel's own semaphores: ten of copies, and the credit. -/
def osem (k : Fin 11) : SemLoc sig := if h : k.val < 10 then .dma ⟨3 + k.val, by show _ < 13; omega⟩ else .reg credS

theorem osem_inj : Function.Injective osem := by
  intro a b h
  unfold osem at h
  have ha := a.isLt; have hb := b.isLt
  split at h <;> split at h
  · have := congrArg Fin.val (SemLoc.dma.inj h); dsimp only at this; exact Fin.ext (by omega)
  · cases h
  · cases h
  · exact Fin.ext (by omega)

def scEmb : Dev nD × Fin 11 ↪ GSem nD τ sig :=
  ⟨fun p => ((p.1 : Thread nD τ), osem p.2), fun p q h => by
    obtain ⟨p1, p2⟩ := p; obtain ⟨q1, q2⟩ := q
    have h1 : p1 = q1 := congrArg (fun g : GSem nD τ sig => g.1.1) h
    have h2 : osem p2 = osem q2 := congrArg (fun g : GSem nD τ sig => g.2) h
    rw [h1, osem_inj h2]⟩
def barEmb : Dev nD ↪ GSem nD τ sig :=
  ⟨fun c => rcell c barS, fun a b h => congrArg (fun g : GSem nD τ sig => g.1.1) h⟩

def scCells : Finset (GSem nD τ sig) := Finset.univ.map scEmb
def barCells : Finset (GSem nD τ sig) := Finset.univ.map barEmb

theorem dma_mem (c : Dev nD) {q : DmaSem sig} (hq : 3 ≤ q.val) : dcell c q ∈ barCells ∪ scCells := by
  refine Finset.mem_union_right _ (Finset.mem_map.mpr ⟨(c, ⟨q.val - 3, ?_⟩), Finset.mem_univ _, ?_⟩)
  · have : q.val < 13 := q.isLt
    omega
  · have : q.val < 13 := q.isLt
    show ((c : Thread nD τ), osem _) = _
    unfold osem
    rw [dif_pos (by show q.val - 3 < 10; omega)]
    congr 2; exact Fin.ext (by show 3 + (q.val - 3) = q.val; omega)
theorem cred_mem (c : Dev nD) : rcell c credS ∈ barCells ∪ scCells :=
  Finset.mem_union_right _ (Finset.mem_map.mpr ⟨(c, 10), Finset.mem_univ _, rfl⟩)
theorem bar_mem (c : Dev nD) : rcell c barS ∈ barCells ∪ scCells :=
  Finset.mem_union_left _ (Finset.mem_map.mpr ⟨c, Finset.mem_univ _, rfl⟩)

section

variable (xw : Dev nD → FVec F S1024x576 .f32) (w : Dev nD → FVec F S2048x1024 .f32) (K : GSem nD τ sig → ℕ)

/-- What every device may use at any time: the cells' invariants and the levels. -/
def invs : sProp 𝕄 := bigSep (barCells ∪ scCells) fun g => cellInv ER (ringRd xw w) (K g) g
instance invs_persistent : BI.Persistent (invs xw w K) := by unfold invs; infer_instance
def ctx : sProp 𝕄 := iprop(invs xw w K ∗ levAts L lv)
instance ctx_persistent : BI.Persistent (ctx xw w K) := by unfold ctx; infer_instance

theorem ctx_inv {g : GSem nD τ sig} (hg : g ∈ barCells ∪ scCells) : ctx xw w K ⊢ cellInv ER (ringRd xw w) (K g) g :=
  sep_elim_left.trans (bigSep_elim hg)
theorem ctx_lev : ctx xw w K ⊢ (levAts L lv : sProp 𝕄) := sep_elim_right

/-- What device `c` owes, whatever it has waited for. -/
def owing (c : Dev nD) (O : CellTallies nD τ sig ℕ) : sProp 𝕄 :=
  iprop(∃ W : Waits sig ℕ, owes (c : Thread nD τ) O W)

/-- A cell's position at the start of round `r`. -/
def pos (c : Dev nD) (q : SemLoc sig) (r : ℕ) : sProp 𝕄 :=
  iprop(atPos ER ((c : Thread nD τ), q) r ∅ 0 ∗ reached ER ((c : Thread nD τ), q) r)

abbrev WPat (c : Dev nD) (b : Body F) (Q : PUnit → sProp 𝕄) : sProp 𝕄 :=
  wp frame (wpE (defs₀ (F := F)) 𝒱₀ (c : Thread nD τ) none) Set.univ b Q

/-! ## Copies and waits -/

/-- A copy of contents `v` to the right neighbour: its source is the sender's duty, its destination, rewritten, the duty of the
receiver's cell. -/
theorem wp_hand {S : Shape} {src dst : Memref sig .tc .vmem S .f32} (c n : Dev nD) (hn : n = right c) {qs qr : DmaSem sig}
    {hsc : (dst : Memref sig (Dev.tc n : Thread nD τ).2.kind .vmem S .f32).view.ref.isScScratch = false}
    {hsrc : src.view.WordExact} {hdst : dst.view.WordExact}
    {hsem : DmaTarget.Typed .vmem (.dma qr) (.remote (Dev.tc n : Thread nD τ) dst (.dma qs) hsc)}
    {Q : PUnit → sProp 𝕄} {k : PUnit → Body F} {r₁ r₂ : ℕ} (hqs : 3 ≤ qs.val) (hqr : 3 ≤ qr.val)
    (hd₁ : (ringRd xw w).duties (dcell c qs) r₁ = {true}) (hd₂ : (ringRd xw w).duties (dcell (right c) qr) r₂ = {true})
    (i N : ℕ) (hN : dst.view.dmaCredit = N) (hk₁ : (ringRd xw w).amount (dcell c qs) r₁ true = N)
    (hk₂ : (ringRd xw w).amount (dcell (right c) qr) r₂ true = N)
    {O₀ : CellTallies nD τ sig ℕ} (O : CellTallies nD τ sig ℕ) (hO : O₀ = O + tallyAt (dcell (right c) qr) i N)
    (v : FVec F S .f32) (R : sProp 𝕄)
    (hp₁ : heldAt (src.view.loc (c : Thread nD τ)) src.view.set (fun f => src.view.read (Elt F) f = v)
      ⊢ (ringRd xw w).payload (dcell c qs) r₁ true)
    (hp₂ : iprop(heldAt (dst.view.loc (right c : Thread nD τ)) dst.view.set (fun f => dst.view.read (Elt F) f = v) ∗ R)
      ⊢ (ringRd xw w).payload (dcell (right c) qr) r₂ true) :
    iprop(ctx xw w K ∗ heldAt (src.view.loc (c : Thread nD τ)) src.view.set (fun f => src.view.read (Elt F) f = v)
        ∗ heldAt (dst.view.loc (right c : Thread nD τ)) dst.view.set (fun _ => True) ∗ R
        ∗ owing c O₀ ∗ dutyTok ER (dcell c qs) r₁ true ∗ reached ER (dcell c qs) r₁
        ∗ dutyTok ER (dcell (right c) qr) r₂ true ∗ reached ER (dcell (right c) qr) r₂)
      ⊢ iprop(((cred (tallyAt (dcell c qs) 0 N) ∗ owing c O) -∗ WPat c (k ⟨⟩) Q)
          -∗ WPat c (.op (.enqueueDma src (.remote (Dev.tc n : Thread nD τ) dst (.dma qs) hsc) (.dma qr) hsrc hdst hsem) k) Q) := by
  subst hn
  unfold heldAt owing
  iintro ⟨#Hc, ⟨%fs, Hs, %hs⟩, ⟨%fd, Hd, -⟩, HR, ⟨%W, HO⟩, Ht1, Hr1, Ht2, Hr2⟩ Hk
  ihave #H1 := (ctx_inv xw w K (dma_mem c hqs)) $$ Hc
  ihave #H2 := (ctx_inv xw w K (dma_mem (right c) hqr)) $$ Hc
  iapply (Rounds.wp_send_pointsTo_with 𝒱₀ ER (ringRd xw w) (c : Thread nD τ) none (sS := .dma qs) (sem := .dma qr) (κ₁ := K (dcell c qs)) (κ₂ := K (dcell (right c) qr))
      (r₁ := r₁) (r₂ := r₂) (d₁ := true) (d₂ := true) (fs := fs) (fd := fd) (q := fullShare) (F := R)
      (by rw [hd₁]; exact Finset.mem_singleton_self _) (by rw [hd₂]; exact Finset.mem_singleton_self _)
      i 0 N hN hk₁ hk₂ O hO (W := W)
      (by refine BIBase.Entails.trans ?_ hp₁
          unfold heldAt; iintro H; iexists fs; isplitl [H]; · iexact H
          ipureintro; exact hs)
      (by refine BIBase.Entails.trans ?_ hp₂
          unfold heldAt; iintro ⟨H, HR⟩; isplitl [H]
          · iexists _; isplitl [H]; · iexact H
            ipureintro; exact (View.read_write_univ _ _).trans hs
          · iexact HR)) $$ [Hs Hd HR HO Ht1 Hr1 Ht2 Hr2]
  · isplitr; · iexact H1
    isplitr; · iexact H2
    isplitl [Hs]; · iexact Hs
    isplitl [Hd HR]
    · isplitl [Hd]; · iexact Hd
      iexact HR
    isplitl [HO]; · iexact HO
    isplitl [Ht1]; · iexact Ht1
    isplitl [Hr1]; · iexact Hr1
    isplitl [Ht2]; · iexact Ht2
    iexact Hr2
  iintro ⟨Hcr, HO⟩
  iapply Hk
  isplitl [Hcr]; · iexact Hcr
  iexists W; iexact HO

set_option maxRecDepth 8000 in
/-- A wait for a copy: the cell's round has one duty, whose payload comes. -/
theorem wp_await {S S' : Shape} {src : Memref sig .tc .vmem S .f32} {dst : Memref sig .tc .vmem S' .f32} (c : Dev nD) {q : DmaSem sig}
    {hsrc : src.view.WordExact} {hdst : dst.view.WordExact} {Q : PUnit → sProp 𝕄} {k : PUnit → Body F} {r : ℕ} (hq : 3 ≤ q.val)
    (hd : (ringRd xw w).duties (dcell c q) r = {true}) {N : ℕ} (hk : (ringRd xw w).amount (dcell c q) r true = N)
    (hN : dst.view.dmaCredit = N) {i n : ℕ} (hi : i < 18) (hn : 2 * i + 1 ≤ n) {O : CellTallies nD τ sig ℕ} (hO : Above n O) :
    iprop(ctx xw w K ∗ cred (tallyAt (dcell c q) i N) ∗ owing c O ∗ atPos ER (dcell c q) r ∅ 0)
      ⊢ iprop(((owing c O ∗ pos c (.dma q) (r + 1) ∗ (ringRd xw w).payload (dcell c q) r true) -∗ WPat c (k ⟨⟩) Q)
          -∗ WPat c (.op (.waitDma2 q src dst hsrc hdst) k) Q) := by
  subst hN
  have hm : (levAts L lv : sProp 𝕄) ⊢ MayWait (c : Thread nD τ) (.dma q) i O :=
    mayWait c (.dma q) hi (le_of_eq_of_le (lv_dma c q i) hn) hO
  unfold owing pos
  iintro ⟨#Hc, Hcr, ⟨%W, HO⟩, Hat⟩ Hk
  ihave #H1 := (ctx_inv xw w K (dma_mem c hq)) $$ Hc
  ihave #Hl := (ctx_lev xw w K) $$ Hc
  iapply (Rounds.wp_wait_rest_token 𝒱₀ ER (ringRd xw w) (c : Thread nD τ) none (κ := K (dcell c q))
      (wpE_waitDma2_eq 𝒱₀ (c : Thread nD τ) none Set.univ) (Set.mem_univ _) i (O := O) (W := W) (R := r) (m := 0) (T := ∅)
      (by rw [Nat.zero_add, expect_one xw w r hd, hk])) $$ [Hcr HO Hat]
  · isplitr; · iexact H1
    isplitl [Hcr]; · iexact Hcr
    isplitl [HO]; · iexact HO
    isplitr
    · iapply hm; iexact Hl
    iexact Hat
  iintro ⟨HO, Hat, Hr, Hpay⟩
  ihave Hp := (Entails.of_eq (rest_one xw w r hd)) $$ Hpay
  iapply Hk
  isplitl [HO]; · iexists _; iexact HO
  isplitl [Hat Hr]
  · isplitl [Hat]; · iexact Hat
    iexact Hr
  iexact Hp

/-- A unit given to a neighbour's cell. -/
theorem wp_give (c n d : Dev nD) (hn : n = d) {q : Sem sig} {Q : PUnit → sProp 𝕄} {k : Body F} {r : ℕ} {b : Bool}
    (hq : rcell d q ∈ barCells ∪ scCells) (hd : b ∈ (ringRd xw w).duties (rcell d q) r) (i : ℕ)
    {O₀ : CellTallies nD τ sig ℕ} (O : CellTallies nD τ sig ℕ) (hO : O₀ = O + tallyAt (rcell d q) i 1) :
    iprop(ctx xw w K ∗ owing c O₀ ∗ dutyTok ER (rcell d q) r b ∗ (ringRd xw w).payload (rcell d q) r b ∗ reached ER (rcell d q) r)
      ⊢ iprop((owing c O -∗ WPat c k Q) -∗ WPat c (do semSignalWord n q 1#32; k) Q) := by
  subst hn
  unfold owing
  simp only [semSignalWord, Prog.lift, Prog.bind_op, Prog.bind_ret, Prog.pure_eq_ret]
  iintro ⟨#Hc, ⟨%W, HO⟩, Ht, Hp, Hr⟩ Hk
  ihave #H1 := (ctx_inv xw w K hq) $$ Hc
  iapply (Rounds.wp_signal 𝒱₀ ER (ringRd xw w) (c : Thread nD τ) none (dst := (n : Thread nD τ)) (κ := K (rcell n q))
      hd ((amount_reg xw w n r q b).trans (by decide)) i O hO (W := W)) $$ [HO Ht Hp Hr]
  · isplitr; · iexact H1
    isplitl [HO]; · iexact HO
    isplitl [Ht]; · iexact Ht
    isplitl [Hp]; · iexact Hp
    iexact Hr
  iintro HO
  iapply Hk; iexists W; iexact HO

end

end Cert.KernelIdeal.Ring

end
-- ==== Proof.KernelIdeal.Sums.lean ====
/- The loads of a step and the store of its sums, as rules over the contents of a slot. -/
module

public import proofs.«01_k».proof.Proof.KernelIdeal.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- The staged rows and weights. -/
def xPts (c : Dev nD) (v : FVec F S1024x576 .f32) : sProp 𝕄 :=
  (xIn.view.loc (c : Thread nD τ)) ↦{fullShare} (v : Buf (Elt F) (xIn.view.loc (c : Thread nD τ)))
def wPts (c : Dev nD) (v : FVec F S2048x1024 .f32) : sProp 𝕄 :=
  (wIn.view.loc (c : Thread nD τ)) ↦{fullShare} (v : Buf (Elt F) (wIn.view.loc (c : Thread nD τ)))

theorem wp_rows (c : Dev nD) (Q : PUnit → sProp 𝕄) (s : Fin 2) (v : FVec F S1024x576 .f32) (k : Vec F S1x1024x512 .f32 → Body F) :
    xAt c s v ⊢ iprop((xAt c s v -∗ WPat c (k (rows v)) Q) -∗ WPat c (ldRows s k) Q) := by
  unfold xAt heldAt
  simp only [Prog.lift, Prog.bind_op, Prog.bind_ret]
  iintro ⟨%f, H, %hf⟩ Hk
  iapply (wp_load 𝒱₀ (c : Thread nD τ) none Set.univ (m := xBuf) (rows_sub s)) $$ H; iintro H
  rw [load_rows, hf]
  iapply Hk; iexists f; isplitl [H]; · iexact H
  ipureintro; exact hf

theorem wp_col (c : Dev nD) (Q : PUnit → sProp 𝕄) (s : Fin 2) {j : ℕ} (hj : j < 64) (v : FVec F S1024x576 .f32) (k : Vec F S1x1024x1 .f32 → Body F) :
    xAt c s v ⊢ iprop((xAt c s v -∗ WPat c (k (col j v)) Q) -∗ WPat c (ldCol s hj k) Q) := by
  unfold xAt heldAt
  simp only [Prog.lift, Prog.bind_op, Prog.bind_ret]
  iintro ⟨%f, H, %hf⟩ Hk
  iapply (wp_load 𝒱₀ (c : Thread nD τ) none Set.univ (m := xBuf) (col_sub s hj)) $$ H; iintro H
  rw [load_col s hj, hf]
  iapply Hk; iexists f; isplitl [H]; · iexact H
  ipureintro; exact hf

theorem wp_ldW (c : Dev nD) (Q : PUnit → sProp 𝕄) (j : Fin 4) (v : FVec F S2048x1024 .f32) (k : Vec F S512x1024 .f32 → Body F) :
    wPts c v ⊢ iprop((wPts c v -∗ WPat c (k (wBlock j v)) Q) -∗ WPat c (ldW j k) Q) := by
  unfold wPts
  simp only [Prog.lift, Prog.bind_op, Prog.bind_ret]
  iintro H Hk
  iapply (wp_load 𝒱₀ (c : Thread nD τ) none Set.univ (m := wIn) (Finset.subset_univ _)) $$ H; iintro H
  rw [load_w]
  iapply Hk; iexact H

/-- The loads of a step. -/
theorem wp_products (c : Dev nD) (Q : PUnit → sProp 𝕄) (s : Fin 2) (h : Fin 16) (v : FVec F S1024x576 .f32) (u : FVec F S2048x1024 .f32) (k : FVec F S1024x1024 .f32 → Body F) :
    iprop(xAt c s v ∗ wPts c u)
      ⊢ iprop((xAt c s v ∗ wPts c u -∗ WPat c (k (part h.val v u)) Q) -∗ WPat c (products s h k) Q) := by
  unfold products part
  iintro ⟨Hx, Hw⟩ Hk
  iapply (wp_rows c Q s v) $$ Hx; iintro Hx
  iapply (wp_col c Q s _ v) $$ Hx; iintro Hx
  iapply (wp_ldW c Q 0 u) $$ Hw; iintro Hw
  iapply (wp_col c Q s _ v) $$ Hx; iintro Hx
  iapply (wp_ldW c Q 1 u) $$ Hw; iintro Hw
  iapply (wp_col c Q s _ v) $$ Hx; iintro Hx
  iapply (wp_ldW c Q 2 u) $$ Hw; iintro Hw
  iapply (wp_col c Q s _ v) $$ Hx; iintro Hx
  iapply (wp_ldW c Q 3 u) $$ Hw; iintro Hw
  iapply Hk
  isplitl [Hx]; · iexact Hx
  iexact Hw

omit [FloatOps F] in
theorem aAt_open (c : Dev nD) (s : Fin 2) (v : FVec F S1024x1024 .f32) :
    aAt c s v ⊢ iprop(∃ f : Buf (Elt F) ((aSlot s).view.loc (c : Thread nD τ)),
      ((aSlot s).view.loc (c : Thread nD τ) ↦[(aSlot s).view.set]{fullShare} f) ∗ ⌜(aSlot s).view.read (Elt F) f = v⌝) := by
  unfold aAt heldAt; exact .rfl

/-- A slot of the sums, loaded and stored, at known contents of the buffer. -/
theorem wp_ldA (c : Dev nD) (Q : PUnit → sProp 𝕄) (s : Fin 2) (f : Buf (Elt F) ((aSlot s).view.loc (c : Thread nD τ)))
    (k : Vec F S1x1024x1024 .f32 → Body F) :
    ((aSlot s).view.loc (c : Thread nD τ) ↦[(aSlot s).view.set]{fullShare} f)
      ⊢ iprop((((aSlot s).view.loc (c : Thread nD τ) ↦[(aSlot s).view.set]{fullShare} f)
          -∗ WPat c (k (aBuf.view.readAt (Elt F) (rA s).toLoadRect f)) Q) -∗ WPat c (ldA s k) Q) := by
  simp only [Prog.lift, Prog.bind_op, Prog.bind_ret]
  exact wp_load 𝒱₀ (c : Thread nD τ) none Set.univ (m := aBuf) (sumSlot_sub s)

theorem wp_stA (c : Dev nD) (Q : PUnit → sProp 𝕄) (s : Fin 2) (f : Buf (Elt F) ((aSlot s).view.loc (c : Thread nD τ)))
    (v : FVec F S1024x1024 .f32) (k : Body F) :
    ((aSlot s).view.loc (c : Thread nD τ) ↦[(aSlot s).view.set]{fullShare} f)
      ⊢ iprop((aAt c s v -∗ WPat c k Q) -∗ WPat c (stA s (shapeCast S1x1024x1024 v shapeCasts_S1024x1024_S1x1024x1024) k) Q) := by
  simp only [Prog.lift, Prog.bind_op, Prog.bind_ret]
  unfold aAt heldAt
  iintro Ha Hk
  iapply (wp_store 𝒱₀ (c : Thread nD τ) none Set.univ (m := aBuf) (r := rA s) (Mk := Finset.univ) (store_sub s)) $$ Ha; iintro Ha
  iapply Hk
  iexists _; isplitl [Ha]; · iexact Ha
  ipureintro; exact store_sums s f v

/-- The first sums, stored over whatever slot `0` had. -/
theorem wp_firstSum (c : Dev nD) (Q : PUnit → sProp 𝕄) (v : FVec F S1024x576 .f32) (u : FVec F S2048x1024 .f32) (k : Body F) :
    iprop(xAt c 0 v ∗ wPts c u ∗ aAny c 0)
      ⊢ iprop((xAt c 0 v ∗ wPts c u ∗ aAt c 0 (part 0 v u) -∗ WPat c k Q) -∗ WPat c (firstSum k) Q) := by
  unfold firstSum
  iintro ⟨Hx, Hw, Ha⟩ Hk
  iapply (wp_products c Q 0 0 v u) $$ [Hx Hw]
  · isplitl [Hx]; · iexact Hx
    iexact Hw
  iintro ⟨Hx, Hw⟩
  unfold aAny heldAt
  icases Ha with ⟨%f, Ha, -⟩
  iapply (wp_ldA c Q 0 f) $$ Ha; iintro Ha
  iapply (wp_stA c Q 0 f) $$ Ha; iintro Ha
  iapply Hk
  isplitl [Hx]; · iexact Hx
  isplitl [Hw]; · iexact Hw
  iexact Ha

/-- A step's products, added to the sums that arrived. -/
theorem wp_addSum (c : Dev nD) (Q : PUnit → sProp 𝕄) (s : Fin 2) (h : Fin 16) (v : FVec F S1024x576 .f32) (u : FVec F S2048x1024 .f32) (a : FVec F S1024x1024 .f32) (k : Body F) :
    iprop(xAt c s v ∗ wPts c u ∗ aAt c s a)
      ⊢ iprop((xAt c s v ∗ wPts c u ∗ aAt c s (addf a (part h.val v u)) -∗ WPat c k Q) -∗ WPat c (addSum s h k) Q) := by
  unfold addSum
  iintro ⟨Hx, Hw, Ha⟩ Hk
  iapply (wp_products c Q s h v u) $$ [Hx Hw]
  · isplitl [Hx]; · iexact Hx
    iexact Hw
  iintro ⟨Hx, Hw⟩
  ihave Ha := (aAt_open c s a) $$ Ha
  icases Ha with ⟨%f, Ha, %hf⟩
  iapply (wp_ldA c Q s f) $$ Ha; iintro Ha
  iapply (wp_ldA c Q s f) $$ Ha; iintro Ha
  rw [load_sums, hf]
  iapply (wp_stA c Q s f) $$ Ha; iintro Ha
  iapply Hk
  isplitl [Hx]; · iexact Hx
  isplitl [Hw]; · iexact Hw
  iexact Ha

/-- The device's rows, put into slot `0`. -/
theorem wp_putRows (c : Dev nD) (Q : PUnit → sProp 𝕄) (v : FVec F S1024x576 .f32) (k : Body F) :
    iprop(xPts c v ∗ xAny c 0)
      ⊢ iprop((xPts c v ∗ xAt c 0 v -∗ WPat c k Q) -∗ WPat c (do
        let v ← Prog.lift (.load xIn (Rect.unit (s := S1024x576) ![0, 0] S1024x576.size inb_S1024x576_S1024x576_0_0).toLoadRect
          (View.loadsAt_vmem h_S1024x576))
        let _ ← Prog.lift (.load xBuf (rX 0).toLoadRect (View.loadsAt_vmem h_S1x1024x576))
        Prog.lift (.store xBuf (rX 0) (shapeCast S1x1024x576 (shapeCast S1024x576 v shapeCasts_S1024x576_S1024x576)
          shapeCasts_S1024x576_S1x1024x576) Finset.univ (View.stores_vmem_bits_univ h_S1x1024x576 rfl) (.inl rfl))
        k) Q) := by
  simp only [Prog.lift, Prog.bind_op, Prog.bind_ret]
  unfold xPts xAny xAt heldAt
  iintro ⟨Hx, ⟨%f, Hs, -⟩⟩ Hk
  iapply (wp_load 𝒱₀ (c : Thread nD τ) none Set.univ (m := xIn) (Finset.subset_univ _)) $$ Hx; iintro Hx
  rw [load_x]
  iapply (wp_load 𝒱₀ (c : Thread nD τ) none Set.univ (m := xBuf) (rowSlot_sub 0)) $$ Hs; iintro Hs
  iapply (wp_store 𝒱₀ (c : Thread nD τ) none Set.univ (m := xBuf) (r := rX 0) (Mk := Finset.univ) (storeX_sub 0)) $$ Hs; iintro Hs
  iapply Hk
  isplitl [Hx]; · iexact Hx
  iexists _; isplitl [Hs]; · iexact Hs
  ipureintro; exact store_rows 0 f v

end Cert.KernelIdeal.Ring

end
-- ==== Proof.KernelIdeal.Exchange.lean ====
/- A step's exchange with the neighbours, and the credit that follows it. -/
module

public import proofs.«01_k».proof.Proof.KernelIdeal.Sums

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem slot_two (n : ℕ) : slot (n + 1 + 1) = slot n := Fin.ext (by show (n + 1 + 1) % 2 = n % 2; omega)
theorem half_two (n : ℕ) : (n + 1 + 1) / 2 = n / 2 + 1 := by omega
theorem sendStep_slot (n : ℕ) : sendStep (slot n) (n / 2) = n + 1 := by
  show 2 * (n / 2) + 1 + n % 2 = n + 1; omega
theorem recvStep_slot (n : ℕ) : recvStep (slot (n + 1)) (n / 2) = n + 1 := by
  show 2 * (n / 2) + 2 - (n + 1) % 2 = n + 1; omega

/-- The slots are of one size. -/
theorem credit_x (s : Fin 2) : (xSlot s).view.dmaCredit = Nx := rfl
theorem credit_a (s : Fin 2) : (aSlot s).view.dmaCredit = Na := rfl

/-- Device `c`'s places on the cells of copies, with `n` steps done. -/
def posns (c : Dev nD) (n : ℕ) : sProp 𝕄 :=
  iprop((pos c (.dma (xSend (slot n))) (n / 2) ∗ pos c (.dma (aSend (slot n))) (n / 2))
    ∗ (pos c (.dma (xSend (slot (n + 1)))) ((n + 1) / 2) ∗ pos c (.dma (aSend (slot (n + 1)))) ((n + 1) / 2))
    ∗ (pos c (.dma (xRecv (slot (n + 1)))) (n / 2) ∗ pos c (.dma (aRecv (slot (n + 1)))) (n / 2))
    ∗ (pos c (.dma (xRecv (slot n))) ((n + 1) / 2) ∗ pos c (.dma (aRecv (slot n))) ((n + 1) / 2)))

/-- What device `c` pays with, and waits with, at step `n + 1`. -/
def toks (c : Dev nD) (n : ℕ) : sProp 𝕄 :=
  iprop((dutyTok ER (dcell c (xSend (slot n))) (n / 2) true ∗ dutyTok ER (dcell c (aSend (slot n))) (n / 2) true)
    ∗ (dutyTok ER (dcell (right c) (xRecv (slot (n + 1)))) (n / 2) true ∗ dutyTok ER (dcell (right c) (aRecv (slot (n + 1)))) (n / 2) true)
    ∗ (cred (tallyAt (dcell c (xRecv (slot (n + 1)))) (n + 2) Nx) ∗ cred (tallyAt (dcell c (aRecv (slot (n + 1)))) (n + 2) Na)))

variable (xw : Dev nD → FVec F S1024x576 .f32) (w : Dev nD → FVec F S2048x1024 .f32) (K : GSem nD τ sig → ℕ)

theorem duty_sends (c : Dev nD) {n : ℕ} (hn : n ≤ 14) :
    (ringRd xw w).duties (dcell c (xSend (slot n))) (n / 2) = {true} ∧ (ringRd xw w).duties (dcell c (aSend (slot n))) (n / 2) = {true} :=
  ⟨duty_xSend xw w c (slot n) (n / 2) (by rw [sendStep_slot]; omega), duty_aSend xw w c (slot n) (n / 2) (by rw [sendStep_slot]; omega)⟩
theorem duty_recvs (c : Dev nD) {n : ℕ} (hn : n ≤ 14) :
    (ringRd xw w).duties (dcell c (xRecv (slot (n + 1)))) (n / 2) = {true}
      ∧ (ringRd xw w).duties (dcell c (aRecv (slot (n + 1)))) (n / 2) = {true} :=
  ⟨duty_xRecv xw w c (slot (n + 1)) (n / 2) (by rw [recvStep_slot]; omega),
    duty_aRecv xw w c (slot (n + 1)) (n / 2) (by rw [recvStep_slot]; omega)⟩

theorem pay_sends (c : Dev nD) (n : ℕ) :
    (ringRd xw w).payload (dcell c (xSend (slot n))) (n / 2) true = xAt c (slot n) (X xw n c)
      ∧ (ringRd xw w).payload (dcell c (aSend (slot n))) (n / 2) true = aAt c (slot n) (A xw w n c) := by
  rw [pay_xSend, pay_aSend, sendStep_slot]; exact ⟨rfl, rfl⟩
theorem pay_recvs (c : Dev nD) (n : ℕ) :
    (ringRd xw w).payload (dcell c (xRecv (slot (n + 1)))) (n / 2) true
        = iprop(xAt c (slot (n + 1)) (X xw (n + 1) c) ∗ reached ER (rcell (left c) credS) n)
      ∧ (ringRd xw w).payload (dcell c (aRecv (slot (n + 1)))) (n / 2) true = aAt c (slot (n + 1)) (A xw w n (left c)) := by
  rw [pay_xRecv, pay_aRecv, recvStep_slot]; exact ⟨rfl, rfl⟩

theorem above_recv (c : Dev nD) {n : ℕ} (hn : n ≤ 14) : Above (2 * (n + 2) + 1) (owed c (n + 2) (n + 1)) :=
  above_owed c (by omega) (by omega) (by omega)

set_option maxHeartbeats 1600000 in
set_option maxRecDepth 8000 in
/-- The exchange of step `n + 1`: the rows and the sums go right, the left neighbour's come; the slot sent from is free. -/
theorem wp_exchange (c : Dev nD) {n : ℕ} (hn : n ≤ 14) (d d' : Dev nD) (hd : d = right c) (hd' : d' = right c)
    (Q : PUnit → sProp 𝕄) (k : Body F) :
    iprop(ctx xw w K ∗ (xAt c (slot n) (X xw n c) ∗ aAt c (slot n) (A xw w n c)) ∗ freeAt (right c) (slot (n + 1)) (n / 2)
        ∗ reached ER (rcell c credS) n ∗ posns c n ∗ toks c n ∗ owing c (owed c (n + 1) (n + 1)))
      ⊢ iprop(((xAt c (slot (n + 1)) (X xw (n + 1) c) ∗ aAt c (slot (n + 1)) (A xw w n (left c))) ∗ freeAt c (slot n) ((n + 1) / 2)
          ∗ reached ER (rcell (left c) credS) n ∗ posns c (n + 1) ∗ owing c (owed c (n + 2) (n + 1)) -∗ WPat c k Q)
        -∗ WPat c (exchange (slot n) (slot (n + 1)) d d' k) Q) := by
  unfold exchange posns toks freeAt pos
  simp only [Prog.lift, Prog.bind_op, Prog.bind_ret]
  iintro ⟨#Hc, ⟨Hx, Ha⟩, ⟨⟨HxR, HaR⟩, #HrxR, #HraR⟩, #Hcr, ⟨⟨⟨HxS, #HrxS⟩, HaS, #HraS⟩, Hother, ⟨⟨HxV, #HrxV⟩, HaV, #HraV⟩, ⟨HxV', #HrxV'⟩, HaV', #HraV'⟩, ⟨⟨HtxS, HtaS⟩, ⟨HtxV, HtaV⟩, HcxV, HcaV⟩, HO⟩ Hk
  -- the rows go
  iapply (wp_hand xw w K (src := xSlot (slot n)) (dst := xSlot (slot (n + 1))) c d hd (qs := xSend (slot n)) (qr := xRecv (slot (n + 1))) (r₁ := n / 2) (r₂ := n / 2) (by simp) (by simp; omega)
      (duty_sends xw w c hn).1 (duty_recvs xw w (right c) hn).1 (n + 2) Nx (credit_x _) (amount_xSend xw w c _ _ _) (amount_xRecv xw w _ _ _ _)
      _ (owed_sendX c (h := n + 1) (by omega)) (X xw n c) (reached ER (rcell c credS) n)
      (Entails.of_eq (pay_sends xw w c n).1.symm)
      (Entails.of_eq (by rw [(pay_recvs xw w (right c) n).1, left_right, X, left_right]; rfl))) $$ [Hx HxR HO HtxS HtxV]
  · isplitr; · iexact Hc
    isplitl [Hx]; · unfold xAt; iexact Hx
    isplitl [HxR]; · unfold xAny; iexact HxR
    isplitr; · iexact Hcr
    isplitl [HO]; · iexact HO
    isplitl [HtxS]; · iexact HtxS
    isplitr; · iexact HrxS
    isplitl [HtxV]; · iexact HtxV
    iexact HrxR
  iintro ⟨HcxS, HO⟩
  -- the sums go
  iapply (wp_hand xw w K (src := aSlot (slot n)) (dst := aSlot (slot (n + 1))) c d' hd' (qs := aSend (slot n)) (qr := aRecv (slot (n + 1))) (r₁ := n / 2) (r₂ := n / 2) (by simp; omega) (by simp; omega)
      (duty_sends xw w c hn).2 (duty_recvs xw w (right c) hn).2 (n + 2) Na (credit_a _) (amount_aSend xw w c _ _ _) (amount_aRecv xw w _ _ _ _)
      (owed c (n + 2) (n + 1)) rfl (A xw w n c) iprop(emp)
      (Entails.of_eq (pay_sends xw w c n).2.symm)
      (by rw [(pay_recvs xw w (right c) n).2, left_right]; exact sep_elim_left)) $$ [Ha HaR HO HtaS HtaV]
  · isplitr; · iexact Hc
    isplitl [Ha]; · unfold aAt; iexact Ha
    isplitl [HaR]; · unfold aAny; iexact HaR
    isplitr; · iempintro
    isplitl [HO]; · iexact HO
    isplitl [HtaS]; · iexact HtaS
    isplitr; · iexact HraS
    isplitl [HtaV]; · iexact HtaV
    iexact HraR
  iintro ⟨HcaS, HO⟩
  -- the rows are sent
  iapply (wp_await xw w K (src := xSlot (slot (n + 1))) (dst := xSlot (slot n)) c (q := xSend (slot n)) (by simp) (duty_sends xw w c hn).1 (amount_xSend xw w c _ _ _) (credit_x _) (i := 0)
      (by omega) (by omega) (above_recv c hn)) $$ [HcxS HO HxS]
  · isplitr; · iexact Hc
    isplitl [HcxS]; · iexact HcxS
    isplitl [HO]; · iexact HO
    iexact HxS
  iintro ⟨HO, HxS, Hx⟩
  ihave Hx := (Entails.of_eq (pay_sends xw w c n).1) $$ Hx
  -- the left neighbour's have come
  iapply (wp_await xw w K (src := xSlot (slot n)) (dst := xSlot (slot (n + 1))) c (q := xRecv (slot (n + 1))) (by simp; omega) (duty_recvs xw w c hn).1 (amount_xRecv xw w c _ _ _) (credit_x _) (i := n + 2)
      (by omega) le_rfl (above_recv c hn)) $$ [HcxV HO HxV]
  · isplitr; · iexact Hc
    isplitl [HcxV]; · iexact HcxV
    isplitl [HO]; · iexact HO
    iexact HxV
  iintro ⟨HO, HxV, Hx'⟩
  ihave Hx' := (Entails.of_eq (pay_recvs xw w c n).1) $$ Hx'
  icases Hx' with ⟨Hx', #Hleft⟩
  -- and so for the sums
  iapply (wp_await xw w K (src := aSlot (slot (n + 1))) (dst := aSlot (slot n)) c (q := aSend (slot n)) (by simp; omega) (duty_sends xw w c hn).2 (amount_aSend xw w c _ _ _) (credit_a _) (i := 0)
      (by omega) (by omega) (above_recv c hn)) $$ [HcaS HO HaS]
  · isplitr; · iexact Hc
    isplitl [HcaS]; · iexact HcaS
    isplitl [HO]; · iexact HO
    iexact HaS
  iintro ⟨HO, HaS, Ha⟩
  ihave Ha := (Entails.of_eq (pay_sends xw w c n).2) $$ Ha
  iapply (wp_await xw w K (src := aSlot (slot n)) (dst := aSlot (slot (n + 1))) c (q := aRecv (slot (n + 1))) (by simp; omega) (duty_recvs xw w c hn).2 (amount_aRecv xw w c _ _ _) (credit_a _) (i := n + 2)
      (by omega) le_rfl (above_recv c hn)) $$ [HcaV HO HaV]
  · isplitr; · iexact Hc
    isplitl [HcaV]; · iexact HcaV
    isplitl [HO]; · iexact HO
    iexact HaV
  iintro ⟨HO, HaV, Ha'⟩
  ihave Ha' := (Entails.of_eq (pay_recvs xw w c n).2) $$ Ha'
  iapply Hk
  rw [slot_two, half_two]
  unfold pos
  isplitl [Hx' Ha']
  · isplitl [Hx']; · iexact Hx'
    iexact Ha'
  isplitl [Hx Ha]
  · isplitl [Hx Ha]
    · isplitl [Hx]; · iapply (xAt_any c _ _); iexact Hx
      iapply (aAt_any c _ _); iexact Ha
    isplitr; · iexact HrxV'
    iexact HraV'
  isplitr; · iexact Hleft
  isplitr [HO]
  · isplitl [Hother]; · iexact Hother
    isplitl [HxS HaS]
    · isplitl [HxS]; · iexact HxS
      iexact HaS
    isplitl [HxV' HaV']
    · isplitl [HxV']
      · isplitl [HxV']; · iexact HxV'
        iexact HrxV'
      isplitl [HaV']; · iexact HaV'
      iexact HraV'
    isplitl [HxV]; · iexact HxV
    iexact HaV
  iexact HO

/-- The credit given to the left neighbour after step `n + 1`. -/
theorem wp_giveCredit (c : Dev nD) {n : ℕ} (hn : n ≤ 13) (d : Dev nD) (hd : d = left c) (Q : PUnit → sProp 𝕄) (k : Body F) :
    iprop(ctx xw w K ∗ freeAt c (slot n) ((n + 1) / 2) ∗ reached ER (rcell (left c) credS) n
        ∗ dutyTok ER (rcell (left c) credS) n true ∗ owing c (owed c (n + 2) (n + 1)))
      ⊢ iprop((owing c (owed c (n + 2) (n + 2)) -∗ WPat c k Q) -∗ WPat c (giveCredit d k) Q) := by
  iintro ⟨#Hc, Hf, Hr, Ht, HO⟩ Hk
  iapply (wp_give xw w K c d (left c) hd (r := n) (b := true) (cred_mem _)
    (by rw [duty_cred xw w (left c) n (by omega)]; exact Finset.mem_singleton_self _) (n + 3)
    (owed c (n + 2) (n + 2)) (owed_cred c (h := n + 1) (by omega))) $$ [Hf Hr Ht HO]
  · isplitr; · iexact Hc
    isplitl [HO]; · iexact HO
    isplitl [Ht]; · iexact Ht
    isplitl [Hf]
    · rw [pay_cred, right_left]; iexact Hf
    iexact Hr
  iexact Hk

theorem above_cred (c : Dev nD) {n : ℕ} (hn : n ≤ 13) : Above (2 * (n + 3)) (owed c (n + 2) (n + 2)) :=
  above_owed c (by omega) (by omega) (by omega)

set_option maxRecDepth 8000 in
/-- The credit awaited before step `n + 2`: the right neighbour's slot is free. -/
theorem wp_takeCredit (c : Dev nD) {n : ℕ} (hn : n ≤ 13) (Q : PUnit → sProp 𝕄) (k : Body F) :
    iprop(ctx xw w K ∗ cred (tallyAt (rcell c credS) (n + 3) 1) ∗ owing c (owed c (n + 2) (n + 2)) ∗ pos c (.reg credS) n)
      ⊢ iprop((owing c (owed c (n + 2) (n + 2)) ∗ pos c (.reg credS) (n + 1) ∗ freeAt (right c) (slot n) ((n + 1) / 2) -∗ WPat c k Q)
        -∗ WPat c (takeCredit k) Q) := by
  have hd := duty_cred xw w c n (by omega)
  have hm : (levAts L lv : sProp 𝕄) ⊢ MayWait (c : Thread nD τ) (.reg credS) (n + 3) (owed c (n + 2) (n + 2)) :=
    mayWait c (.reg credS) (by omega) (le_of_eq (lv_cred c (n + 3))) (above_cred c hn)
  unfold takeCredit owing pos
  simp only [semWaitWord, Prog.lift, Prog.bind_op, Prog.bind_ret]
  iintro ⟨#Hc, Hcr, ⟨%W, HO⟩, Hat, -⟩ Hk
  ihave #H1 := (ctx_inv xw w K (cred_mem c)) $$ Hc
  ihave #Hl := (ctx_lev xw w K) $$ Hc
  iapply (Rounds.wp_wait_rest_token 𝒱₀ ER (ringRd xw w) (c : Thread nD τ) none (κ := K (rcell c credS))
      (wpE_semWait_eq 𝒱₀ (c : Thread nD τ) none Set.univ) (Set.mem_univ _) (n + 3) (O := owed c (n + 2) (n + 2)) (W := W) (R := n)
      (m := 0) (T := ∅) (by rw [Nat.zero_add, expect_one xw w n hd, amount_reg]; decide)) $$ [Hcr HO Hat]
  · isplitr; · iexact H1
    isplitl [Hcr]; · iexact Hcr
    isplitl [HO]; · iexact HO
    isplitr; · iapply hm; iexact Hl
    iexact Hat
  iintro ⟨HO, Hat, Hr, Hpay⟩
  ihave Hp := (Entails.of_eq ((rest_one xw w n hd).trans (pay_cred xw w c n true))) $$ Hpay
  iapply Hk
  isplitl [HO]; · iexists _; iexact HO
  isplitl [Hat Hr]
  · isplitl [Hat]; · iexact Hat
    iexact Hr
  iexact Hp

end Cert.KernelIdeal.Ring

end
-- ==== Proof.KernelIdeal.Walk.lean ====
/- The fifteen steps in a row, and the last copy. -/
module

public import proofs.«01_k».proof.Proof.KernelIdeal.Exchange

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem dev_x (d : Dev nD) {k : ℕ} (hk : k < 14) : devOf d (3 * k + 2) = right d :=
  devOf_right (by omega) (by unfold isRight; simp)
theorem dev_a (d : Dev nD) {k : ℕ} (hk : k < 14) : devOf d (3 * k + 3) = right d :=
  devOf_right (by omega) (by unfold isRight; simp)
theorem dev_c (d : Dev nD) {k : ℕ} (hk : k < 14) : devOf d (3 * k + 4) = left d :=
  devOf_left (by omega) (by unfold isRight; simp; omega)

/-- What device `c` gives its left neighbour with, and awaits its right neighbour with, after step `n + 1`. -/
def gifts (c : Dev nD) (n : ℕ) : sProp 𝕄 :=
  iprop(dutyTok ER (rcell (left c) credS) n true ∗ cred (tallyAt (rcell c credS) (n + 3) 1))

/-- What the last copy needs. -/
def lastToks (c : Dev nD) : sProp 𝕄 :=
  iprop((pos c (.dma ySend) 0 ∗ pos c (.dma yRecv) 0) ∗ (dutyTok ER (dcell c ySend) 0 true ∗ dutyTok ER (dcell (right c) yRecv) 0 true)
    ∗ cred (tallyAt (dcell c yRecv) 17 Na) ∗ yAny (right c) ∗ reached ER (dcell (right c) yRecv) 0)

variable (xw : Dev nD → FVec F S1024x576 .f32) (w : Dev nD → FVec F S2048x1024 .f32) (K : GSem nD τ sig → ℕ)

/-- Device `c` with `n` steps done. -/
def here (c : Dev nD) (n : ℕ) : sProp 𝕄 :=
  iprop((xAt c (slot n) (X xw n c) ∗ aAt c (slot n) (A xw w n c)) ∗ wPts c (w c) ∗ freeAt (right c) (slot (n + 1)) (n / 2)
    ∗ pos c (.reg credS) n ∗ posns c n ∗ owing c (owed c (n + 1) (n + 1)))

/-- What the steps from `n + 1` on, and the last copy, are done with. -/
def ahead (c : Dev nD) (n : ℕ) : sProp 𝕄 :=
  iprop(bigSep (Finset.Ico n 15) (fun i => toks (F := F) c i) ∗ bigSep (Finset.Ico n 14) (fun i => gifts (F := F) c i) ∗ lastToks c)

/-- Device `c` at the end. -/
def there (c : Dev nD) : sProp 𝕄 :=
  iprop((xAny c 1 ∗ aAny c 1) ∗ (xAny c 0 ∗ aAny c 0) ∗ yAt c (A xw w 15 (left c)) ∗ wPts c (w c) ∗ owing c 0
    ∗ posns c 15 ∗ pos c (.reg credS) 14 ∗ pos c (.dma ySend) 1 ∗ pos c (.dma yRecv) 1)

set_option maxRecDepth 8000 in
/-- The last copy, of the finished sums into the right neighbour's result. -/
theorem wp_finish (c : Dev nD) (d : Dev nD) (hd : d = right c) (Q : PUnit → sProp 𝕄) (k : Body F) :
    iprop(ctx xw w K ∗ aAt c 1 (A xw w 15 c) ∗ owing c (owed c 16 15) ∗ lastToks c)
      ⊢ iprop((aAny c 1 ∗ yAt c (A xw w 15 (left c)) ∗ owing c 0 ∗ pos c (.dma ySend) 1 ∗ pos c (.dma yRecv) 1 -∗ WPat c k Q)
        -∗ WPat c (finish d k) Q) := by
  rw [owed_last, owed_end]
  unfold finish lastToks pos
  simp only [Prog.lift, Prog.bind_op, Prog.bind_ret]
  iintro ⟨#Hc, Ha, HO, ⟨⟨HS, #HrS⟩, HV, -⟩, ⟨HtS, HtV⟩, Hcr, Hy, #HrV⟩ Hk
  iapply (wp_hand xw w K (src := aSlot 1) (dst := yOut) c d hd (qs := ySend) (qr := yRecv) (r₁ := 0) (r₂ := 0) (by simp) (by simp)
      (duty_ySend xw w c) (duty_yRecv xw w (right c)) 17 Na rfl (amount_ySend xw w c 0 true) (amount_yRecv xw w (right c) 0 true)
      0 rfl (A xw w 15 c) iprop(emp)
      (Entails.of_eq (pay_ySend xw w c 0 true).symm)
      (by rw [pay_yRecv xw w (right c) 0 true, left_right]; exact sep_elim_left)) $$ [Ha Hy HO HtS HtV]
  · isplitr; · iexact Hc
    isplitl [Ha]; · unfold aAt; iexact Ha
    isplitl [Hy]; · unfold yAny; iexact Hy
    isplitr; · iempintro
    isplitl [HO]; · iexact HO
    isplitl [HtS]; · iexact HtS
    isplitr; · iexact HrS
    isplitl [HtV]; · iexact HtV
    iexact HrV
  iintro ⟨HcS, HO⟩
  iapply (wp_await xw w K (src := yOut) (dst := aSlot 1) c (q := ySend) (by simp) (duty_ySend xw w c) (amount_ySend xw w c 0 true) rfl
      (i := 0) (by omega) le_rfl (Above.zero 1)) $$ [HcS HO HS]
  · isplitr; · iexact Hc
    isplitl [HcS]; · iexact HcS
    isplitl [HO]; · iexact HO
    iexact HS
  iintro ⟨HO, HS, Ha⟩
  ihave Ha := (Entails.of_eq (pay_ySend xw w c 0 true)) $$ Ha
  iapply (wp_await xw w K (src := aSlot 1) (dst := yOut) c (q := yRecv) (by simp) (duty_yRecv xw w c) (amount_yRecv xw w c 0 true) rfl
      (i := 17) (by omega) le_rfl (Above.zero 35)) $$ [Hcr HO HV]
  · isplitr; · iexact Hc
    isplitl [Hcr]; · iexact Hcr
    isplitl [HO]; · iexact HO
    iexact HV
  iintro ⟨HO, HV, Hy⟩
  ihave Hy := (Entails.of_eq (pay_yRecv xw w c 0 true)) $$ Hy
  iapply Hk
  unfold pos
  isplitl [Ha]; · iapply (aAt_any c _ _); iexact Ha
  isplitl [Hy]; · iexact Hy
  isplitl [HO]; · iexact HO
  isplitl [HS]; · iexact HS
  iexact HV

omit [FloatOps F] in
theorem peel {n b : ℕ} (h : n < b) (f : ℕ → sProp 𝕄) :
    bigSep (Finset.Ico n b) f ⊢ iprop(f n ∗ bigSep (Finset.Ico (n + 1) b) f) := by
  rw [← Finset.insert_Ico_succ_left_eq_Ico h, bigSep_insert (by simp)]
  exact .rfl

theorem wp_done (c : Dev nD) (Q : PUnit → sProp 𝕄) : iprop(|={Set.univ}=> Q ⟨⟩) ⊢ WPat c (pure ⟨⟩ : Body F) Q := by
  show _ ⊢ wp frame _ _ _ _
  rw [Prog.pure_eq_ret, wp_ret]

omit [FloatOps F] in
theorem free_slots (n : Dev nD) (s : Fin 2) (r : ℕ) : freeAt n s r ⊢ iprop(xAny (F := F) n s ∗ aAny (F := F) n s) := by
  unfold freeAt; exact sep_elim_left

/-- The steps left to do: at each, the exchange, the credit, the sums, and the wait for the credit. -/
theorem wp_walk (c : Dev nD) (Q : PUnit → sProp 𝕄) (m : ℕ) (hm : m ≤ 14) :
    iprop(ctx xw w K ∗ here xw w c (14 - m) ∗ ahead c (14 - m))
      ⊢ iprop((there xw w c -∗ |={Set.univ}=> Q ⟨⟩) -∗ WPat c (walkWith (devOf c) m) Q) := by
  induction m with
  | zero =>
    unfold walkWith here ahead pos
    iintro ⟨#Hc, ⟨Hs, Hw, Hf, ⟨Hat, #Hr⟩, Hp, HO⟩, Ht, -, Hl⟩ Hk
    ihave Ht := (peel (n := 14) (by omega) (fun i => toks (F := F) c i)) $$ Ht
    icases Ht with ⟨Ht, -⟩
    iapply (wp_exchange xw w K c (n := 14) (by omega) _ _ (devOf_right (by omega) rfl) (devOf_right (by omega) rfl) Q) $$ [Hs Hf Hp Ht HO]
    · isplitr; · iexact Hc
      isplitl [Hs]; · iexact Hs
      isplitl [Hf]; · iexact Hf
      isplitr; · iexact Hr
      isplitl [Hp]; · iexact Hp
      isplitl [Ht]; · iexact Ht
      iexact HO
    iintro ⟨⟨Hx, Ha⟩, Hfree, -, Hp, HO⟩
    ihave Hfree := (free_slots c (slot 14) _) $$ Hfree
    iapply (wp_addSum c Q 1 15 (X xw 15 c) (w c)) $$ [Hx Hw Ha]
    · isplitl [Hx]; · iexact Hx
      isplitl [Hw]; · iexact Hw
      iexact Ha
    iintro ⟨Hx, Hw, Ha⟩
    iapply (wp_finish xw w K c _ (devOf_right (by omega) rfl) Q) $$ [Ha HO Hl]
    · isplitr; · iexact Hc
      isplitl [Ha]; · iexact Ha
      isplitl [HO]; · iexact HO
      iexact Hl
    iintro ⟨Ha, Hy, HO, HS, HV⟩
    iapply (wp_done c Q)
    iapply Hk
    unfold there
    isplitl [Hx Ha]
    · isplitl [Hx]; · iapply (xAt_any c _ _); iexact Hx
      iexact Ha
    isplitl [Hfree]; · iexact Hfree
    isplitl [Hy]; · iexact Hy
    isplitl [Hw]; · iexact Hw
    isplitl [HO]; · iexact HO
    isplitl [Hp]; · iexact Hp
    isplitl [Hat]
    · unfold pos; isplitl [Hat]; · iexact Hat
      iexact Hr
    isplitl [HS]; · iexact HS
    iexact HV
  | succ m ih =>
    obtain ⟨n, hn⟩ : ∃ n, n = 13 - m := ⟨_, rfl⟩
    have h1 : 14 - (m + 1) = n := by omega
    have h2 : 14 - m = n + 1 := by omega
    rw [h2] at ih
    rw [h1]
    unfold walkWith
    simp only [← hn]
    unfold here ahead pos gifts
    iintro ⟨#Hc, ⟨Hs, Hw, Hf, ⟨Hat, #Hr⟩, Hp, HO⟩, Ht, Hg, Hl⟩ Hk
    ihave Ht := (peel (n := n) (by omega) (fun i => toks (F := F) c i)) $$ Ht
    icases Ht with ⟨Htn, Ht⟩
    ihave Hg := (peel (n := n) (by omega) (fun i => iprop(dutyTok ER (rcell (left c) credS) i true ∗ cred (tallyAt (rcell c credS) (i + 3) 1)))) $$ Hg
    icases Hg with ⟨⟨Hgn, Hcn⟩, Hg⟩
    iapply (wp_exchange xw w K c (n := n) (by omega) _ _ (dev_x c (by omega)) (dev_a c (by omega)) Q) $$ [Hs Hf Hp Htn HO]
    · isplitr; · iexact Hc
      isplitl [Hs]; · iexact Hs
      isplitl [Hf]; · iexact Hf
      isplitr; · iexact Hr
      isplitl [Hp]; · iexact Hp
      isplitl [Htn]; · iexact Htn
      iexact HO
    iintro ⟨⟨Hx, Ha⟩, Hfree, #Hleft, Hp, HO⟩
    iapply (wp_giveCredit xw w K c (n := n) (by omega) _ (dev_c c (by omega)) Q) $$ [Hfree Hgn HO]
    · isplitr; · iexact Hc
      isplitl [Hfree]; · iexact Hfree
      isplitr; · iexact Hleft
      isplitl [Hgn]; · iexact Hgn
      iexact HO
    iintro HO
    iapply (wp_addSum c Q (slot (n + 1)) _ (X xw (n + 1) c) (w c)) $$ [Hx Hw Ha]
    · isplitl [Hx]; · iexact Hx
      isplitl [Hw]; · iexact Hw
      iexact Ha
    iintro ⟨Hx, Hw, Ha⟩
    iapply (wp_takeCredit xw w K c (n := n) (by omega) Q) $$ [Hcn HO Hat]
    · isplitr; · iexact Hc
      isplitl [Hcn]; · iexact Hcn
      isplitl [HO]; · iexact HO
      unfold pos; isplitl [Hat]; · iexact Hat
      iexact Hr
    iintro ⟨HO, Hat, Hf⟩
    iapply (ih (by omega)) $$ [Hx Ha Hw Hf Hat Hp HO Ht Hg Hl]
    · isplitr; · iexact Hc
      unfold here ahead
      isplitr [Ht Hg Hl]
      · rw [slot_two]
        isplitl [Hx Ha]
        · isplitl [Hx]; · iexact Hx
          iexact Ha
        isplitl [Hw]; · iexact Hw
        isplitl [Hf]; · iexact Hf
        isplitl [Hat]; · iexact Hat
        isplitl [Hp]; · iexact Hp
        iexact HO
      isplitl [Ht]; · iexact Ht
      isplitl [Hg]; · iexact Hg
      iexact Hl
    iexact Hk

end Cert.KernelIdeal.Ring

end
-- ==== Proof.KernelIdeal.BodyRun.lean ====
/- The whole body: the rendezvous, the first sums, the walk, and the cells closed at the end. -/
module

public import proofs.«01_k».proof.Proof.KernelIdeal.Walk

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

omit [FloatOps F] in
/-- A family over the kernel's own semaphores, written out. -/
theorem own_eq (Φ : SemLoc sig → sProp 𝕄) :
    bigSep Finset.univ (fun k : Fin 11 => Φ (osem k))
      = iprop(Φ (.dma (xSend 0)) ∗ Φ (.dma (xSend 1)) ∗ Φ (.dma (xRecv 0)) ∗ Φ (.dma (xRecv 1)) ∗ Φ (.dma (aSend 0)) ∗ Φ (.dma (aSend 1))
        ∗ Φ (.dma (aRecv 0)) ∗ Φ (.dma (aRecv 1)) ∗ Φ (.dma ySend) ∗ Φ (.dma yRecv) ∗ Φ (.reg credS)) :=
  bigSep_univ_eq_bigSepL [0, 1, 2, 3, 4, 5, 6, 7, 8, 9, 10] (by decide) (by decide) fun k => Φ (osem k)

omit [FloatOps F] in
/-- A cell's place says the round was reached. -/
theorem pos_reached (c : Dev nD) (q : SemLoc sig) (r : ℕ) :
    (pos c q r : sProp 𝕄) ⊢ iprop(pos c q r ∗ reached ER ((c : Thread nD τ), q) r) := by
  unfold pos
  iintro ⟨H, #R⟩
  isplitl [H]
  · isplitl [H]; · iexact H
    iexact R
  iexact R

/-- What the last copy needs that is there from launch. -/
def lastStart (c : Dev nD) : sProp 𝕄 :=
  iprop((dutyTok ER (dcell c ySend) 0 true ∗ dutyTok ER (dcell (right c) yRecv) 0 true) ∗ cred (tallyAt (dcell c yRecv) 17 Na))

/-- What the rendezvous needs. -/
def meet (c : Dev nD) : sProp 𝕄 :=
  iprop((dutyTok ER (rcell (left c) barS) 0 true ∗ reached ER (rcell (left c) barS) 0)
    ∗ (dutyTok ER (rcell (right c) barS) 0 false ∗ reached ER (rcell (right c) barS) 0)
    ∗ cred (tallyAt (rcell c barS) 1 2))

/-- What every later step needs. -/
def stock (c : Dev nD) : sProp 𝕄 :=
  iprop(bigSep (Finset.Ico 0 15) (fun i => toks (F := F) c i) ∗ bigSep (Finset.Ico 0 14) (fun i => gifts (F := F) c i) ∗ lastStart c)

/-- Two slots of each kind, at any contents. -/
def slotsAny (c : Dev nD) : sProp 𝕄 := iprop((xAny c 0 ∗ xAny c 1) ∗ (aAny c 0 ∗ aAny c 1))

variable (xw : Dev nD → FVec F S1024x576 .f32) (w : Dev nD → FVec F S2048x1024 .f32) (K : GSem nD τ sig → ℕ)

/-- What device `c`'s body starts from, and what it ends at. -/
def bodyPre (c : Dev nD) : sProp 𝕄 :=
  iprop(ctx xw w K ∗ (bigSep Finset.univ (fun k : Fin 11 => pos (F := F) c (osem k) 0) ∗ pos c (.reg barS) 0) ∗ meet c ∗ stock c
    ∗ slotsAny c ∗ owing c (owed₀ c) ∗ xPts c (xw c) ∗ wPts c (w c) ∗ yAny c)
def bodyPost (c : Dev nD) : sProp 𝕄 :=
  iprop((bigSep Finset.univ (fun k : Fin 11 => semVal ((c : Thread nD τ), osem k) 0) ∗ semVal (rcell c barS) 0)
    ∗ slotsAny c ∗ owing c 0 ∗ xPts c (xw c) ∗ wPts c (w c) ∗ yAt c (A xw w 15 (left c)))

theorem above_bar (c : Dev nD) : Above 3 (owed c 1 1) := above_owed c (by omega) (by omega) (by omega)

set_option maxRecDepth 8000 in
/-- The rendezvous: the right neighbour's free slots and its result buffer come. -/
theorem wp_meet (c : Dev nD) (Q : PUnit → sProp 𝕄) (k : Body F) :
    iprop(ctx xw w K ∗ meet c ∗ pos c (.reg barS) 0 ∗ barPay c ∗ owing c (owed₀ c))
      ⊢ iprop((pos c (.reg barS) 1 ∗ barPay (right c) ∗ owing c (owed c 1 1) -∗ WPat c k Q)
        -∗ WPat c (do
          semSignalWord (devOf c 0) barS 1#32
          semSignalWord (devOf c 1) barS 1#32
          semWaitWord barS 2#32
          k) Q) := by
  have hm : (levAts L lv : sProp 𝕄) ⊢ MayWait (c : Thread nD τ) (.reg barS) 1 (owed c 1 1) :=
    mayWait c (.reg barS) (by omega) (le_of_eq (lv_bar c 1)) (above_bar c)
  unfold meet
  iintro ⟨#Hc, ⟨⟨HtL, HrL⟩, ⟨HtR, HrR⟩, Hcr⟩, Hat, Hp, HO⟩ Hk
  iapply (wp_give xw w K c _ (left c) (devOf_left (by omega) rfl) (r := 0) (b := true) (bar_mem _)
    (by rw [duty_bar]; decide) 1 (owed c 1 1 + tallyAt (rcell (right c) barS) 1 1) rfl) $$ [HO HtL Hp HrL]
  · isplitr; · iexact Hc
    isplitl [HO]; · iexact HO
    isplitl [HtL]; · iexact HtL
    isplitl [Hp]; · rw [(pay_bar xw w (left c) 0).1, right_left]; iexact Hp
    iexact HrL
  iintro HO
  iapply (wp_give xw w K c _ (right c) (devOf_right (by omega) rfl) (r := 0) (b := false) (bar_mem _)
    (by rw [duty_bar]; decide) 1 (owed c 1 1) rfl) $$ [HO HtR HrR]
  · isplitr; · iexact Hc
    isplitl [HO]; · iexact HO
    isplitl [HtR]; · iexact HtR
    isplitr; · rw [(pay_bar xw w (right c) 0).2]; iempintro
    iexact HrR
  iintro HO
  unfold owing pos
  icases HO with ⟨%W, HO⟩
  icases Hat with ⟨Hat, -⟩
  simp only [semWaitWord, Prog.lift, Prog.bind_op, Prog.bind_ret]
  ihave #H1 := (ctx_inv xw w K (bar_mem c)) $$ Hc
  ihave #Hl := (ctx_lev xw w K) $$ Hc
  iapply (Rounds.wp_wait_rest_token 𝒱₀ ER (ringRd xw w) (c : Thread nD τ) none (κ := K (rcell c barS))
      (wpE_semWait_eq 𝒱₀ (c : Thread nD τ) none Set.univ) (Set.mem_univ _) 1 (O := owed c 1 1) (W := W) (R := 0)
      (m := 0) (T := ∅) (by rw [Nat.zero_add, expect_bar]; decide)) $$ [Hcr HO Hat]
  · isplitr; · iexact H1
    isplitl [Hcr]; · iexact Hcr
    isplitl [HO]; · iexact HO
    isplitr; · iapply hm; iexact Hl
    iexact Hat
  iintro ⟨HO, Hat, Hr, Hpay⟩
  ihave Hpay := (rest_bar xw w c) $$ Hpay
  iapply Hk
  isplitl [Hat Hr]
  · isplitl [Hat]; · iexact Hat
    iexact Hr
  isplitl [Hpay]; · iexact Hpay
  iexists _; iexact HO

/-- A cell that is through gives its counter back, at zero. -/
theorem shut (c : Dev nD) (q : SemLoc sig) (r : ℕ) (hg : ((c : Thread nD τ), q) ∈ barCells ∪ scCells)
    (hr : ∀ r', r ≤ r' → (ringRd xw w).duties ((c : Thread nD τ), q) r' = ∅) :
    iprop(ctx xw w K ∗ pos c q r) ⊢ (|={Set.univ}=> semVal ((c : Thread nD τ), q) 0 : sProp 𝕄) := by
  unfold pos
  iintro ⟨#Hc, Hat, -⟩
  ihave #H1 := (ctx_inv xw w K hg) $$ Hc
  iapply (Rounds.cell_close ER (ringRd xw w) (Set.mem_univ (K ((c : Thread nD τ), q))) (fun h => h) (R := r) hr)
  isplitr; · iexact H1
  iexact Hat

set_option maxHeartbeats 800000 in
/-- All of a device's cells close. -/
theorem shut_all (c : Dev nD) :
    iprop(ctx xw w K ∗ posns c 15 ∗ pos c (.reg credS) 14 ∗ pos c (.dma ySend) 1 ∗ pos c (.dma yRecv) 1 ∗ pos c (.reg barS) 1)
      ⊢ (|={Set.univ}=> (bigSep Finset.univ (fun k : Fin 11 => semVal ((c : Thread nD τ), osem k) 0) ∗ semVal (rcell c barS) 0) : sProp 𝕄) := by
  rw [own_eq (fun q => semVal ((c : Thread nD τ), q) 0)]
  unfold posns
  iintro ⟨#Hc, ⟨⟨Hx1, Ha1⟩, ⟨Hx0, Ha0⟩, ⟨Hv0, Hb0⟩, Hv1, Hb1⟩, Hcr, HS, HV, HB⟩
  imod (shut xw w K c _ _ (dma_mem c (by simp)) (over_xSend xw w c 1 7 (by decide))) $$ [Hx1] with Hx1
  · isplitr; · iexact Hc
    iexact Hx1
  imod (shut xw w K c _ _ (dma_mem c (by simp)) (over_xSend xw w c 0 8 (by decide))) $$ [Hx0] with Hx0
  · isplitr; · iexact Hc
    iexact Hx0
  imod (shut xw w K c _ _ (dma_mem c (by simp)) (over_aSend xw w c 1 7 (by decide))) $$ [Ha1] with Ha1
  · isplitr; · iexact Hc
    iexact Ha1
  imod (shut xw w K c _ _ (dma_mem c (by simp)) (over_aSend xw w c 0 8 (by decide))) $$ [Ha0] with Ha0
  · isplitr; · iexact Hc
    iexact Ha0
  imod (shut xw w K c _ _ (dma_mem c (by simp)) (over_xRecv xw w c 0 7 (by decide))) $$ [Hv0] with Hv0
  · isplitr; · iexact Hc
    iexact Hv0
  imod (shut xw w K c _ _ (dma_mem c (by simp)) (over_xRecv xw w c 1 8 (by decide))) $$ [Hv1] with Hv1
  · isplitr; · iexact Hc
    iexact Hv1
  imod (shut xw w K c _ _ (dma_mem c (by simp)) (over_aRecv xw w c 0 7 (by decide))) $$ [Hb0] with Hb0
  · isplitr; · iexact Hc
    iexact Hb0
  imod (shut xw w K c _ _ (dma_mem c (by simp)) (over_aRecv xw w c 1 8 (by decide))) $$ [Hb1] with Hb1
  · isplitr; · iexact Hc
    iexact Hb1
  imod (shut xw w K c _ _ (cred_mem c) (over_cred xw w c)) $$ [Hcr] with Hcr
  · isplitr; · iexact Hc
    iexact Hcr
  imod (shut xw w K c _ _ (dma_mem c (by simp)) (over_y xw w c ySend rfl)) $$ [HS] with HS
  · isplitr; · iexact Hc
    iexact HS
  imod (shut xw w K c _ _ (dma_mem c (by simp)) (over_y xw w c yRecv rfl)) $$ [HV] with HV
  · isplitr; · iexact Hc
    iexact HV
  imod (shut xw w K c _ _ (bar_mem c) (over_bar xw w c)) $$ [HB] with HB
  · isplitr; · iexact Hc
    iexact HB
  imodintro
  isplitr [HB]
  · isplitl [Hx0]; · iexact Hx0
    isplitl [Hx1]; · iexact Hx1
    isplitl [Hv0]; · iexact Hv0
    isplitl [Hv1]; · iexact Hv1
    isplitl [Ha0]; · iexact Ha0
    isplitl [Ha1]; · iexact Ha1
    isplitl [Hb0]; · iexact Hb0
    isplitl [Hb1]; · iexact Hb1
    isplitl [HS]; · iexact HS
    isplitl [HV]; · iexact HV
    iexact Hcr
  iexact HB

set_option maxHeartbeats 1600000 in
/-- The body, run. -/
theorem body_run (c : Dev nD) (Q : PUnit → sProp 𝕄) :
    iprop(bodyPre xw w K c ∗ (bodyPost xw w c -∗ Q ⟨⟩)) ⊢ WPat c (bodyWith devOf) Q := by
  unfold bodyWith start bodyPre stock slotsAny lastStart
  simp only [Prog.lift, Prog.bind_op, Prog.bind_ret]
  rw [show WPat c (.op .deviceId fun d => _) Q = _ from wp_deviceId _ _ _ _]
  rw [own_eq (fun q => pos (F := F) c q 0)]
  iintro ⟨⟨#Hc, ⟨⟨Px0, Px1, Pv0, Pv1, Pa0, Pa1, Pb0, Pb1, PS, PV, Pcr⟩, PB⟩, Hm, ⟨Ht, Hg, ⟨HtS, HtV⟩, HcV⟩, ⟨⟨Hx0, Hx1⟩, Ha0, Ha1⟩, HO, Hx, Hw, Hy⟩, Hk⟩
  icases ((pos_reached c (.dma (xRecv 1)) 0)) $$ Pv1 with ⟨Pv1, #Rv1⟩
  icases ((pos_reached c (.dma (aRecv 1)) 0)) $$ Pb1 with ⟨Pb1, #Rb1⟩
  icases ((pos_reached c (.dma yRecv) 0)) $$ PV with ⟨PV, #RV⟩
  iapply (wp_meet xw w K c Q) $$ [Hm PB Hx1 Ha1 Hy HO]
  · isplitr; · iexact Hc
    isplitl [Hm]; · iexact Hm
    isplitl [PB]; · iexact PB
    isplitr [HO]
    · unfold barPay freeAt
      isplitl [Hx1 Ha1]
      · isplitl [Hx1 Ha1]
        · isplitl [Hx1]; · iexact Hx1
          iexact Ha1
        isplitr; · iexact Rv1
        iexact Rb1
      isplitl [Hy]; · iexact Hy
      iexact RV
    iexact HO
  unfold barPay
  iintro ⟨PB, ⟨Hf, HyR, #RyR⟩, HO⟩
  iapply (wp_putRows c Q (xw c)) $$ [Hx Hx0]
  · isplitl [Hx]; · iexact Hx
    iexact Hx0
  iintro ⟨Hx, Hx0⟩
  iapply (wp_firstSum c Q (xw c) (w c)) $$ [Hx0 Hw Ha0]
  · isplitl [Hx0]; · iexact Hx0
    isplitl [Hw]; · iexact Hw
    iexact Ha0
  iintro ⟨Hx0, Hw, Ha0⟩
  iapply (wp_walk xw w K c Q 14 le_rfl) $$ [Hx0 Ha0 Hw Hf Pcr Px0 Px1 Pv0 Pv1 Pa0 Pa1 Pb0 Pb1 PS PV HO Ht Hg HtS HtV HcV HyR]
  · isplitr; · iexact Hc
    rw [Nat.sub_self]
    unfold here ahead lastToks posns
    isplitr [PS PV Ht Hg HtS HtV HcV HyR]
    · isplitl [Hx0 Ha0]
      · isplitl [Hx0]; · iexact Hx0
        iexact Ha0
      isplitl [Hw]; · iexact Hw
      isplitl [Hf]; · iexact Hf
      isplitl [Pcr]; · iexact Pcr
      isplitr [HO]
      · isplitl [Px0 Pa0]
        · isplitl [Px0]; · iexact Px0
          iexact Pa0
        isplitl [Px1 Pa1]
        · isplitl [Px1]; · iexact Px1
          iexact Pa1
        isplitl [Pv1 Pb1]
        · isplitl [Pv1]
          · iexact Pv1
          iexact Pb1
        isplitl [Pv0]
        · iexact Pv0
        iexact Pb0
      iexact HO
    isplitl [Ht]; · iexact Ht
    isplitl [Hg]; · iexact Hg
    isplitl [PS PV]
    · isplitl [PS]; · iexact PS
      iexact PV
    isplitl [HtS HtV]
    · isplitl [HtS]; · iexact HtS
      iexact HtV
    isplitl [HcV]; · iexact HcV
    isplitl [HyR]; · iexact HyR
    iexact RyR
  unfold there
  iintro ⟨⟨Hx1, Ha1⟩, ⟨Hx0, Ha0⟩, Hy, Hw, HO, Hp, Hcr, HS, HV⟩
  imod (shut_all xw w K c) $$ [Hp Hcr HS HV PB] with ⟨Hsem, Hbar⟩
  · isplitr; · iexact Hc
    isplitl [Hp]; · iexact Hp
    isplitl [Hcr]; · iexact Hcr
    isplitl [HS]; · iexact HS
    isplitl [HV]; · iexact HV
    iexact PB
  imodintro
  iapply Hk
  unfold bodyPost slotsAny
  isplitl [Hsem Hbar]
  · isplitl [Hsem]; · iexact Hsem
    iexact Hbar
  isplitl [Hx0 Hx1 Ha0 Ha1]
  · isplitl [Hx0 Hx1]
    · isplitl [Hx0]; · iexact Hx0
      iexact Hx1
    isplitl [Ha0]; · iexact Ha0
    iexact Ha1
  isplitl [HO]; · iexact HO
  isplitl [Hx]; · iexact Hx
  isplitl [Hw]; · iexact Hw
  iexact Hy

end Cert.KernelIdeal.Ring

end
-- ==== Proof.KernelIdeal.Region.lean ====
/- The kernel's region: its proof data, its body obligation, and the record the launch takes. -/
module

public import proofs.«01_k».proof.Proof.KernelIdeal.BodyRun
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

/-! ## The two slots of a scratch buffer are the buffer -/

omit [FloatOps F] in
theorem two_slots (ℓ : Loc nD τ sig) (S₀ S₁ : Finset (Idx ℓ)) (hd : Disjoint S₀ S₁) (hu : S₀ ∪ S₁ = Finset.univ) :
    (iprop(∃ f : Buf (Elt F) ℓ, ℓ ↦{fullShare} f) : sProp 𝕄) ⊢ iprop(heldAt ℓ S₀ (fun _ => True) ∗ heldAt ℓ S₁ (fun _ => True)) := by
  unfold heldAt
  iintro ⟨%f, H⟩
  ihave H' := (show (ℓ ↦{fullShare} f : sProp 𝕄) ⊢ iprop((ℓ ↦[S₀]{fullShare} f) ∗ (ℓ ↦[S₁]{fullShare} f)) from by
    rw [← hu]; exact (pointsTo_union hd).1) $$ H
  icases H' with ⟨H0, H1⟩
  isplitl [H0]
  · iexists f; isplitl [H0]; · iexact H0
    ipureintro; trivial
  iexists f; isplitl [H1]; · iexact H1
  ipureintro; trivial

omit [FloatOps F] in
theorem slots_two (ℓ : Loc nD τ sig) (S₀ S₁ : Finset (Idx ℓ)) (hd : Disjoint S₀ S₁) (hu : S₀ ∪ S₁ = Finset.univ) :
    iprop(heldAt (F := F) ℓ S₀ (fun _ => True) ∗ heldAt ℓ S₁ (fun _ => True)) ⊢ (iprop(∃ f : Buf (Elt F) ℓ, ℓ ↦{fullShare} f) : sProp 𝕄) := by
  unfold heldAt
  iintro ⟨⟨%f, H0, -⟩, ⟨%g, H1, -⟩⟩
  iexists (S₁.piecewise g f)
  iapply (show iprop((ℓ ↦[S₀]{fullShare} f) ∗ (ℓ ↦[S₁]{fullShare} g)) ⊢ (ℓ ↦{fullShare} (S₁.piecewise g f) : sProp 𝕄) from by
    conv => rhs; rw [← hu]
    exact pointsTo_join hd)
  isplitl [H0]; · iexact H0
  iexact H1

theorem x_disj : Disjoint (xSlot 0).view.set (xSlot 1).view.set :=
  Finset.disjoint_left.mpr fun i h0 h1 => by
    have a := (mem_xSlot 0 i).mp h0; have b := (mem_xSlot 1 i).mp h1
    rw [a] at b; exact absurd b (by decide)
theorem a_disj : Disjoint (aSlot 0).view.set (aSlot 1).view.set :=
  Finset.disjoint_left.mpr fun i h0 h1 => by
    have a := (mem_aSlot 0 i).mp h0; have b := (mem_aSlot 1 i).mp h1
    rw [a] at b; exact absurd b (by decide)
theorem x_union : (xSlot 0).view.set ∪ (xSlot 1).view.set = Finset.univ := by
  ext i
  refine ⟨fun _ => Finset.mem_univ _, fun _ => Finset.mem_union.mpr ?_⟩
  rw [mem_xSlot 0 i, mem_xSlot 1 i]
  have h : (i 0).val < 2 := (i 0).isLt
  show (i 0).val = 0 ∨ (i 0).val = 1
  omega
theorem a_union : (aSlot 0).view.set ∪ (aSlot 1).view.set = Finset.univ := by
  ext i
  refine ⟨fun _ => Finset.mem_univ _, fun _ => Finset.mem_union.mpr ?_⟩
  rw [mem_aSlot 0 i, mem_aSlot 1 i]
  have h : (i 0).val < 2 := (i 0).isLt
  show (i 0).val = 0 ∨ (i 0).val = 1
  omega

omit [FloatOps F] in
theorem slots_of_rest (c : Dev nD) :
    (Pipeline.scopedRest (Ix := ℕ) (Name := ℕ) (U := UU) (Lvl := ℕ) (Val := Elt F) spec0 c : sProp 𝕄) ⊢ slotsAny c := by
  rw [scopedRest0_eq]
  unfold slotsAny xAny aAny
  exact BIClass.sep_mono (two_slots _ _ _ x_disj x_union) (two_slots _ _ _ a_disj a_union)
omit [FloatOps F] in
theorem rest_of_slots (c : Dev nD) :
    slotsAny (F := F) c ⊢ (Pipeline.scopedRest (Ix := ℕ) (Name := ℕ) (U := UU) (Lvl := ℕ) (Val := Elt F) spec0 c : sProp 𝕄) := by
  rw [scopedRest0_eq]
  unfold slotsAny xAny aAny
  exact BIClass.sep_mono (slots_two _ _ _ x_disj x_union) (slots_two _ _ _ a_disj a_union)

/-! ## The proof data -/

variable (m : (ℓ : Loc nD τ sig) → Buf (Elt F) ℓ)

/-- The kernel's operands and its result, of every device. -/
def xOp (c : Dev nD) : FVec F S1024x576 .f32 := V7 m c main_v31
def wOp (c : Dev nD) : FVec F S2048x1024 .f32 := V7 m c main_v32
def yOp (c : Dev nD) : FVec F S1024x1024 .f32 := A (xOp m) (wOp m) 15 (left c)
/-- Every device's buffers after the region. -/
def Vend (c : Dev nD) : Valuation τ sig (Elt F) :=
  Function.update (V7 m c) (Proc.devRef .tc main_v33) (yOp m c : (main_v33 : Ref sig .tc).ty.Contents (Elt F))

/-- What is held before the body besides its buffers, and after it. -/
def protoIn (c : Dev nD) : sProp 𝕄 :=
  iprop((∃ K, ctx (xOp m) (wOp m) K ∗ (bigSep Finset.univ (fun k : Fin 11 => pos (F := F) c (osem k) 0) ∗ pos c (.reg barS) 0))
    ∗ meet c ∗ stock c)
def Φin (c : Dev nD) : sProp 𝕄 := iprop(protoIn m c ∗ slotsAny c ∗ ∃ r, prngReg c r)
def Φout (c : Dev nD) : sProp 𝕄 :=
  iprop((bigSep Finset.univ (fun k : Fin 11 => semVal ((c : Thread nD τ), osem k) 0) ∗ semVal (rcell c barS) 0)
    ∗ slotsAny c ∗ ∃ r, prngReg c r)

def dats (_ : Fin 1) (c : Dev nD) : Dat τ (Elt F) ℕ ℕ UU ℕ cfg0 c where
  A w := V7 m c (Proc.devRef .tc (Pipeline.arrRef spec0 w))
  after w _ := match w with
    | ⟨0, _⟩ => xOp m c
    | ⟨1, _⟩ => wOp m c
    | ⟨2, _⟩ => yOp m c
  Φ t := if t.val = 0 then Φin m c else Φout c
  q _ := fullShare
  owed t := if t.val = 0 then owed₀ c else 0

theorem first_val : (t0_0.castSucc : Fin (cfg0.N + 1)).val = 0 := rfl
theorem last_val : ¬ (Fin.last cfg0.N).val = 0 := by rw [Fin.val_last, show cfg0.N = 1 from N_0]; decide
theorem next_val : ¬ (t0_0.succ : Fin (cfg0.N + 1)).val = 0 := by rw [Fin.val_succ]; exact Nat.succ_ne_zero _

theorem Φ_first (c : Dev nD) : (dats m 0 c).Φ t0_0.castSucc = Φin m c := by
  show (if (t0_0.castSucc : Fin (cfg0.N + 1)).val = 0 then Φin m c else Φout c) = _; exact if_pos first_val
theorem Φ_zero (c : Dev nD) : (dats m 0 c).Φ 0 = Φin m c := by
  show (if (0 : Fin (cfg0.N + 1)).val = 0 then Φin m c else Φout c) = _; exact if_pos rfl
theorem Φ_next (c : Dev nD) : (dats m 0 c).Φ t0_0.succ = Φout c := by
  show (if (t0_0.succ : Fin (cfg0.N + 1)).val = 0 then Φin m c else Φout c) = _; exact if_neg next_val
theorem Φ_last (c : Dev nD) : (dats m 0 c).Φ (Fin.last _) = Φout c := by
  show (if ((Fin.last _) : Fin (cfg0.N + 1)).val = 0 then Φin m c else Φout c) = _; exact if_neg last_val
theorem owed_first (c : Dev nD) : (dats m 0 c).owed t0_0.castSucc = owed₀ c := by
  show (if (t0_0.castSucc : Fin (cfg0.N + 1)).val = 0 then owed₀ c else 0) = _; exact if_pos first_val
theorem owed_zero (c : Dev nD) : (dats m 0 c).owed 0 = owed₀ c := by
  show (if (0 : Fin (cfg0.N + 1)).val = 0 then owed₀ c else 0) = _; exact if_pos rfl
theorem owed_next (c : Dev nD) : (dats m 0 c).owed t0_0.succ = 0 := by
  show (if (t0_0.succ : Fin (cfg0.N + 1)).val = 0 then owed₀ c else 0) = _; exact if_neg next_val
theorem owed_lastPt (c : Dev nD) : (dats m 0 c).owed (Fin.last _) = 0 := by
  show (if ((Fin.last _) : Fin (cfg0.N + 1)).val = 0 then owed₀ c else 0) = _; exact if_neg last_val

/-! ## The windows -/

/-- The staged operands are the operands whole. -/
theorem before_x (c : Dev nD) (d) : (dats m 0 c).before 0 t0_0 d = xOp m c := by
  unfold Dat.before
  rw [if_pos (fetch0_0 t0_0)]
  funext i
  show V7 m c main_v31 _ = V7 m c main_v31 i
  congr 1
  funext a
  fin_cases a <;> exact Fin.ext (show 0 + 1 * _ = _ from by rw [Nat.one_mul, Nat.zero_add])
theorem before_w (c : Dev nD) (d) : (dats m 0 c).before 1 t0_0 d = wOp m c := by
  unfold Dat.before
  rw [if_pos (fetch0_1 t0_0)]
  funext i
  show V7 m c main_v32 _ = V7 m c main_v32 i
  congr 1
  funext a
  fin_cases a <;> exact Fin.ext (show 0 + 1 * _ = _ from by rw [Nat.one_mul, Nat.zero_add])

theorem Vend_of (c : Dev nD) (b : DevRef τ sig) (h : b ≠ Proc.devRef .tc main_v33) : Vend m c b = V7 m c b := by
  unfold Vend; exact Function.update_of_ne h _ _
theorem Vend_y (c : Dev nD) : Vend m c main_v33 = yOp m c := by
  unfold Vend; exact Function.update_self _ _ _

theorem arr_x (c : Dev nD) : (dats m 0 c).arrAt 0 cfg0.N = Vend m c main_v31 :=
  ((dats m 0 c).arrAt_in 0 rfl _).trans (Vend_of m c (Proc.devRef .tc main_v31) (by decide)).symm
theorem arr_w (c : Dev nD) : (dats m 0 c).arrAt 1 cfg0.N = Vend m c main_v32 :=
  ((dats m 0 c).arrAt_in 1 rfl _).trans (Vend_of m c (Proc.devRef .tc main_v32) (by decide)).symm
theorem arr_one (c : Dev nD) : (dats m 0 c).arrAt 2 (0 + 1)
    = ((cfg0.win 2).blk t0_0).view.write (Elt F) ((dats m 0 c).arrAt 2 0) ((dats m 0 c).flushed 2 t0_0) Finset.univ := by
  show (if h : 0 < cfg0.N then
      (if (cfg0.win 2).flush ⟨0, h⟩ then
        ((cfg0.win 2).blk ⟨0, h⟩).view.write (Elt F) ((dats m 0 c).arrAt 2 0) ((dats m 0 c).flushed 2 ⟨0, h⟩) Finset.univ
      else (dats m 0 c).arrAt 2 0)
    else (dats m 0 c).arrAt 2 0) = _
  exact (dif_pos t0_0.isLt).trans (if_pos (flush0_2 t0_0))
theorem arr_y (c : Dev nD) : (dats m 0 c).arrAt 2 cfg0.N = Vend m c main_v33 := by
  rw [show cfg0.N = 0 + 1 from N_0, arr_one]
  refine Eq.trans ?_ (Vend_y m c).symm
  have h := View.read_write_univ (v := ((cfg0.win 2).blk t0_0).view) (dats m 0 c |>.arrAt 2 0) (yOp m c)
  funext i
  refine Eq.trans ?_ (congrFun h i)
  rw [View.read_apply]
  show _ = ((cfg0.win 2).blk t0_0).view.write (Elt F) _ _ Finset.univ (((cfg0.win 2).blk t0_0).view.emb i)
  congr 1
  funext a
  fin_cases a <;> exact Fin.ext (show _ = 0 + 1 * _ from by rw [Nat.one_mul, Nat.zero_add])

end Cert.KernelIdeal.Ring

end
-- ==== Proof.KernelIdeal.Talk.lean ====
/- The body obligation, and the region's record for the launch. -/
module

public import proofs.«01_k».proof.Proof.KernelIdeal.Region

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable (m : (ℓ : Loc nD τ sig) → Buf (Elt F) ℓ)

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owesAt_intro (c : Dev nD) (t : Fin (cfg0.N + 1)) (O : CellTallies nD τ sig ℕ) (h0 : (dats m 0 c).owed t = O) :
    (owing c O : sProp 𝕄) ⊢ (dats m 0 c).owesAt 0 t := by
  unfold owing Dat.owesAt Pipeline.owesWithin Dat.bound
  rw [h0]
  iintro ⟨%W, HO⟩; iexists W
  isplitr; · ipureintro; exact fun _ _ => Or.inl trivial
  iexact HO
theorem owesAt_elim (c : Dev nD) (t : Fin (cfg0.N + 1)) (O : CellTallies nD τ sig ℕ) (h0 : (dats m 0 c).owed t = O) :
    (dats m 0 c).owesAt 0 t ⊢ (owing c O : sProp 𝕄) := by
  unfold owing Dat.owesAt Pipeline.owesWithin
  rw [h0]
  iintro ⟨%W, -, HO⟩; iexists W; iexact HO

theorem y_any (c : Dev nD) (f : Buf (Elt F) ((c : Thread nD τ).loc cc0_stg2_0)) :
    (((c : Thread nD τ).loc cc0_stg2_0) ↦{fullShare} f : sProp 𝕄) ⊢ yAny c := by
  unfold yAny heldAt
  rw [show yOut.view.set = Finset.univ from View.set_whole _]
  iintro H; iexists f
  isplitl [H]; · iexact H
  ipureintro; trivial
theorem y_stg (c : Dev nD) (v : FVec F S1024x1024 .f32) : (yAt c v : sProp 𝕄) ⊢ stg c cc0_stg2_0 v := by
  unfold yAt heldAt
  rw [show yOut.view.set = Finset.univ from View.set_whole _]
  iintro ⟨%f, H, %hf⟩; iexists f
  isplitr
  · ipureintro; rw [← hf]; exact (View.read_whole (Val := Elt F) cc0_stg2_0 f).symm
  iexact H

/-- What the body is called with, and what it returns. -/
def obIn (c : Dev nD) : sProp 𝕄 :=
  iprop(Φin m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def obOut (c : Dev nD) : sProp 𝕄 :=
  iprop(Φout c ∗ (dats m 0 c).owesAt 0 t0_0.succ
    ∗ stg c cc0_stg0_0 (xOp m c) ∗ stg c cc0_stg1_0 (wOp m c) ∗ stg c cc0_stg2_0 (yOp m c))

theorem ob_run (c : Dev nD) : obIn m c ⊢ WPat c (bodyWith devOf) (fun _ => obOut m c) := by
  unfold obIn Φin protoIn
  iintro ⟨⟨⟨⟨%K, #Hc, Hpos⟩, Hmeet, Hstock⟩, Hsl, Hp⟩, HO, ⟨%d0, %g0, %h0, Hx⟩, ⟨%d1, %g1, %h1, Hw⟩, ⟨%d2, %g2, %h2, Hy⟩⟩
  rw [before_x] at h0
  rw [before_w] at h1
  subst h0 h1
  ihave HO := (owesAt_elim m c _ _ (owed_first m c)) $$ HO
  ihave Hy := (y_any c g2) $$ Hy
  iapply (body_run (xOp m) (wOp m) K c fun _ => obOut m c)
  isplitr [Hp]
  · unfold bodyPre
    isplitr; · iexact Hc
    isplitl [Hpos]; · iexact Hpos
    isplitl [Hmeet]; · iexact Hmeet
    isplitl [Hstock]; · iexact Hstock
    isplitl [Hsl]; · iexact Hsl
    isplitl [HO]; · iexact HO
    isplitl [Hx]; · unfold xPts; iexact Hx
    isplitl [Hw]; · unfold wPts; iexact Hw
    iexact Hy
  unfold bodyPost obOut Φout
  iintro ⟨Hsem, Hsl, HO, Hx, Hw, Hy⟩
  isplitl [Hsem Hsl Hp]
  · isplitl [Hsem]; · iexact Hsem
    isplitl [Hsl]; · iexact Hsl
    iexact Hp
  isplitl [HO]
  · iapply (owesAt_intro m c t0_0.succ 0 (owed_next m c)); iexact HO
  isplitl [Hx]
  · iexists _; isplitr; · (ipureintro; rfl)
    unfold xPts; iexact Hx
  isplitl [Hw]
  · iexists _; isplitr; · (ipureintro; rfl)
    unfold wPts; iexact Hw
  iapply (y_stg c (yOp m c)); iexact Hy

/-- The label's row of the body table is the program that was walked. -/
theorem row_eq : (defs₀ (F := F) Proc.tc 0 (t0_0, cfg0.slots t0_0)) = bodyWith devOf := by
  rw [← body_eq]
  dsimp only [defs₀, Defs.onTc]

theorem after_x (c : Dev nD) : (dats m 0 c).after 0 t0_0 = xOp m c := rfl
theorem after_w (c : Dev nD) : (dats m 0 c).after 1 t0_0 = wOp m c := rfl
theorem after_y (c : Dev nD) : (dats m 0 c).after 2 t0_0 = yOp m c := rfl

set_option maxRecDepth 8000 in
/-- The library's body obligation. -/
theorem body_obligation (c : Dev nD) : BodyObligation (dats (F := F) m 0 c) (defs₀ (F := F)) 𝒱₀ 0 Set.univ := fun t => by
  obtain rfl := fin_N0 t
  rw [Φ_first, Φ_next]
  rw [bigSep_W0, bigSep_W0]
  simp only [owns_whole_eq]
  refine BIBase.Entails.trans (Q := obIn m c) ?_ ?_
  · unfold obIn
    exact .rfl
  refine BIBase.Entails.trans (ob_run m c) ?_
  rw [row_eq]
  unfold obOut
  rw [after_x, after_w, after_y]

/-! ## The record -/

/-- What the launch keeps for the region, what it makes of the kernel's own semaphores, and what it leaves. -/
def Tk (c : Dev nD) : sProp 𝕄 :=
  iprop((∃ K, invs (xOp m) (wOp m) K ∗ (bigSep Finset.univ (fun k : Fin 11 => openTok ER ((c : Thread nD τ), osem k)) ∗ pos c (.reg barS) 0))
    ∗ meet c ∗ stock c)
def Yk (c : Dev nD) : sProp 𝕄 := semVal (rcell c barS) 0

theorem osem_mem (c : Dev nD) (k : Fin 11) : ((c : Thread nD τ), osem k) ∈ barCells ∪ scCells :=
  Finset.mem_union_right _ (Finset.mem_map.mpr ⟨(c, k), Finset.mem_univ _, rfl⟩)

/-- The kernel's own cells open. -/
theorem open_all (c : Dev nD) (K : GSem nD τ sig → ℕ) :
    iprop(invs (xOp m) (wOp m) K ∗ bigSep Finset.univ (fun k : Fin 11 => iprop(openTok ER ((c : Thread nD τ), osem k) ∗ semVal ((c : Thread nD τ), osem k) 0)))
      ⊢ (|={Set.univ}=> bigSep Finset.univ (fun k : Fin 11 => pos (F := F) c (osem k) 0) : sProp 𝕄) := by
  refine BIBase.Entails.trans ?_ (bigSep_fupd Finset.univ (fun k : Fin 11 => pos (F := F) c (osem k) 0))
  refine bigSep_with_persistent fun k _ => ?_
  unfold pos
  iintro ⟨#Hi, Ho, Hs⟩
  ihave #H1 := (show invs (xOp m) (wOp m) K ⊢ cellInv ER (ringRd (xOp m) (wOp m)) (K ((c : Thread nD τ), osem k)) ((c : Thread nD τ), osem k) from
    bigSep_elim (osem_mem c k)) $$ Hi
  iapply (Rounds.cell_open ER (ringRd (xOp m) (wOp m)) (g := ((c : Thread nD τ), osem k)) (Set.mem_univ (K ((c : Thread nD τ), osem k))))
  isplitr; · iexact H1
  isplitl [Ho] <;> iassumption

theorem opens (c : Dev nD) : iprop(Tk m c ∗ Pipeline.ownSems0 osem c ∗ levAts L lv) ⊢ (|={Set.univ}=> protoIn m c : sProp 𝕄) := by
  unfold Tk protoIn Pipeline.ownSems0 ctx
  iintro ⟨⟨⟨%K, #Hi, Ho, Hb⟩, Hm, Hst⟩, Hs, #Hl⟩
  ihave Hos := (Entails.of_eq (bigSep_sep' Finset.univ (fun k : Fin 11 => (openTok ER ((c : Thread nD τ), osem k) : sProp 𝕄))
    (fun k => semVal ((c : Thread nD τ), osem k) 0)).symm) $$ [Ho Hs]
  · isplitl [Ho]; · iexact Ho
    iexact Hs
  imod (open_all m c K) $$ [Hos] with Hpos
  · isplitr; · iexact Hi
    iexact Hos
  imodintro
  isplitl [Hpos Hb]
  · iexists K
    isplitr
    · isplitr; · iexact Hi
      iexact Hl
    isplitl [Hpos]; · iexact Hpos
    iexact Hb
  isplitl [Hm]; · iexact Hm
  iexact Hst

theorem enters (c : Dev nD) :
    iprop(Pipeline.scopedRest (Pipeline.pin (pcfgs (F := F)) adm 0).spec c ∗ (∃ r, prngReg c r) ∗ StableHlo.held (c.tc : Thread nD τ) ∅ (V7 m c) ∗ protoIn m c)
      ⊢ (dats m 0 c).Φ 0 := by
  rw [Φ_zero]
  unfold Φin
  iintro ⟨Hs, Hp, -, Hx⟩
  isplitl [Hx]; · iexact Hx
  isplitl [Hs]; · iapply (slots_of_rest c); iexact Hs
  iexact Hp

theorem leaves (c : Dev nD) : (dats m 0 c).Φ (Fin.last cfg0.N)
    ⊢ iprop(Pipeline.scopedRest (Pipeline.pin (pcfgs (F := F)) adm 0).spec c ∗ (∃ r, prngReg c r)
      ∗ StableHlo.held (c.tc : Thread nD τ) ∅ (Vend m c) ∗ Pipeline.ownSems0 osem c ∗ Yk c) := by
  rw [Φ_last]
  unfold Φout Yk Pipeline.ownSems0 StableHlo.held
  rw [BI.bigSep_empty]
  iintro ⟨⟨Hs, Hb⟩, Hsl, Hp⟩
  isplitl [Hsl]; · iapply (rest_of_slots c); iexact Hsl
  isplitl [Hp]; · iexact Hp
  isplitr; · iempintro
  isplitl [Hs]; · iexact Hs
  iexact Hb

theorem above_start (c : Dev nD) : Above 1 (owed₀ c) :=
  ((above_owed c (by omega) (by omega) (by omega)).add (Above.tally _ _ (by omega) (by rw [lv_bar]; omega))).add
    (Above.tally _ _ (by omega) (by rw [lv_bar]; omega))

theorem cuts (c : Dev nD) (t : Fin (cfg0.N + 1)) (g : GSem nD τ sig) (i : ℕ) (h : 0 < (dats (F := F) m 0 c).owed t g i) :
    i ∈ L g ∧ 1 < lv g i := by
  have e : (dats (F := F) m 0 c).owed t = if t.val = 0 then owed₀ c else 0 := rfl
  rw [e] at h
  split at h
  · exact above_start c g i h
  · exact absurd h (Nat.lt_irrefl 0)

/-- What else the region passes by: the buffers that are no operand. -/
def others (c : Dev nD) : sProp 𝕄 :=
  StableHlo.held (c.tc : Thread nD τ) (Pipeline.ucRefs τ sig \ Pipeline.arrRefs (τ := τ) spec0) (V7 m c)

set_option backward.isDefEq.respectTransparency.types false in
def reg : Pipeline.RegionSeg (pcfgs (F := F)) adm (dats m) 0 defs₀ 𝒱₀ L lv 0 :=
  Pipeline.RegionSeg.ofTalk (pcfgs (F := F)) adm (dats m) 0 defs₀ 𝒱₀ L lv 0 osem (by decide : Pipeline.OwnSemFacts spec0 osem)
    ∅ ∅ (Finset.Subset.refl _) launch0.toP rfl (fun c => (body_obligation m c).loose)
    (fun _ => 0) owed₀ (fun c => (owed_zero m c).trans (zero_add _).symm) (owed_lastPt m) (fun _ => rfl) (fun c w => (dats m 0 c).share_full (fun _ => rfl) w)
    (V7 m) (Vend m) (fun _ b hb => absurd hb (by rw [Finset.sdiff_self]; exact Finset.notMem_empty b))
    (Tk m) Yk (protoIn m) Yk (opens m) (enters m) (leaves m)
    (fun c => by iintro H; imodintro; iexact H)
    (fun _ => 1)
    ⟨fun c w s => mem_L c _ (by omega), fun c w s => le_of_eq (lv_dma c _ 0), fun c t g i h => cuts m c t g i h⟩
    (others m)
    (fun c w => rfl)
    (fun c w => by fin_cases w; exacts [arr_x m c, arr_w m c, arr_y m c])

end Cert.KernelIdeal.Ring

end
-- ==== Proof.KernelIdeal.Deal.lean ====
/- What the launch deals: the duties' tokens and the credits, each brought to the device that uses it. -/
module

public import proofs.«01_k».proof.Proof.KernelIdeal.Talk
public import Idealize.ShloMosaic.Lib.Ring

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Around the ring -/

omit [FloatOps F] in
/-- A family over the devices, each member given to its left neighbour, and to its right neighbour. -/
theorem to_left (Φ : Dev nD → sProp 𝕄) : bigSep Finset.univ Φ = bigSep Finset.univ fun c => Φ (right c) := bigSep_univ_equiv ring Φ
omit [FloatOps F] in
theorem to_right (Φ : Dev nD → sProp 𝕄) : bigSep Finset.univ Φ = bigSep Finset.univ fun c => Φ (left c) := bigSep_univ_equiv ring.symm Φ

/-! ## The tokens -/

/-- The nine kinds of duty, and the cell, round and mark of the `n`-th of each. Some are never paid. -/
def duty (k : Fin 9) (n : Fin 16) : SemLoc sig × ℕ × Bool :=
  match k with
  | 0 => (.dma (xSend (slot n)), n / 2, true)
  | 1 => (.dma (aSend (slot n)), n / 2, true)
  | 2 => (.dma (xRecv (slot (n + 1))), n / 2, true)
  | 3 => (.dma (aRecv (slot (n + 1))), n / 2, true)
  | 4 => (.reg credS, n, true)
  | 5 => (.reg barS, n, true)
  | 6 => (.reg barS, n, false)
  | 7 => (.dma ySend, n, true)
  | 8 => (.dma yRecv, n, true)

/-- Which duty a cell, round and mark are. -/
def whichDuty : SemLoc sig × ℕ × Bool → ℕ × ℕ
  | (.reg q, r, b) => (if q.val = 0 then 4 else if b then 5 else 6, r)
  | (.dma q, r, _) =>
    match kindOf q with
    | 2 => (0, 2 * r + slotOf q)
    | 4 => (1, 2 * r + slotOf q)
    | 3 => (2, 2 * r + (1 - slotOf q))
    | 5 => (3, 2 * r + (1 - slotOf q))
    | _ => (7 + slotOf q, r)

theorem whichDuty_duty : ∀ (k : Fin 9) (n : Fin 16), whichDuty (duty k n) = (k.val, n.val) := by decide

theorem duty_inj {k k' : Fin 9} {n n' : Fin 16} (h : duty k n = duty k' n') : k = k' ∧ n = n' := by
  have := congrArg whichDuty h
  rw [whichDuty_duty, whichDuty_duty] at this
  exact ⟨Fin.ext (congrArg Prod.fst this), Fin.ext (congrArg Prod.snd this)⟩

def tokEmb : Dev nD × Fin 9 × Fin 16 ↪ GSem nD τ sig × ℕ × Bool :=
  ⟨fun p => (((p.1 : Thread nD τ), (duty p.2.1 p.2.2).1), (duty p.2.1 p.2.2).2), fun p q h => by
    obtain ⟨p1, p2, p3⟩ := p; obtain ⟨q1, q2, q3⟩ := q
    have h1 : p1 = q1 := congrArg (fun t : GSem nD τ sig × ℕ × Bool => t.1.1.1) h
    have h2 : duty p2 p3 = duty q2 q3 :=
      Prod.ext (congrArg (fun t : GSem nD τ sig × ℕ × Bool => t.1.2) h) (congrArg (fun t : GSem nD τ sig × ℕ × Bool => t.2) h)
    obtain ⟨h3, h4⟩ := duty_inj h2
    rw [h1, h3, h4]⟩
def ringToks : Finset (GSem nD τ sig × ℕ × Bool) := Finset.univ.map tokEmb

/-- Device `c`'s `n`-th token of a kind, and all of a kind. -/
def tok (c : Dev nD) (sm : SemLoc sig) (r : ℕ) (b : Bool) : sProp 𝕄 := dutyTok ER ((c : Thread nD τ), sm) r b
def kindToks (k : Fin 9) (c : Dev nD) : sProp 𝕄 :=
  bigSep Finset.univ fun n : Fin 16 => tok c (duty k n).1 (duty k n).2.1 (duty k n).2.2

omit [FloatOps F] in
theorem toks_split : bigSep ringToks (fun x => (dutyTok ER x.1 x.2.1 x.2.2 : sProp 𝕄))
    = bigSep Finset.univ fun c : Dev nD => iprop(kindToks 0 c ∗ kindToks 1 c ∗ kindToks 2 c ∗ kindToks 3 c ∗ kindToks 4 c ∗ kindToks 5 c
        ∗ kindToks 6 c ∗ kindToks 7 c ∗ kindToks 8 c) := by
  unfold ringToks; rw [bigSep_map, bigSep_univ_prod]
  refine bigSep_congr fun c _ => ?_
  rw [bigSep_univ_prod]
  exact bigSep_univ_eq_bigSepL [0, 1, 2, 3, 4, 5, 6, 7, 8] (by decide) (by decide) fun k : Fin 9 => kindToks (F := F) k c

omit [FloatOps F] in
/-- Every token at the device that pays the duty. -/
theorem toks_around : bigSep ringToks (fun x => (dutyTok ER x.1 x.2.1 x.2.2 : sProp 𝕄))
    = bigSep Finset.univ fun c : Dev nD => iprop(kindToks 0 c ∗ kindToks 1 c ∗ kindToks 2 (right c) ∗ kindToks 3 (right c) ∗ kindToks 4 (left c)
        ∗ kindToks 5 (left c) ∗ kindToks 6 (right c) ∗ kindToks 7 c ∗ kindToks 8 (right c)) := by
  rw [toks_split]
  simp only [bigSep_sep']
  rw [to_left (fun c => kindToks (F := F) 2 c), to_left (fun c => kindToks (F := F) 3 c), to_right (fun c => kindToks (F := F) 4 c),
    to_right (fun c => kindToks (F := F) 5 c), to_left (fun c => kindToks (F := F) 6 c), to_left (fun c => kindToks (F := F) 8 c)]

omit [FloatOps F] in
/-- The first tokens of a kind. -/
theorem kind_range (k : Fin 9) (c : Dev nD) (Ψ : ℕ → sProp 𝕄)
    (h : ∀ n (hn : n < 16), Ψ n = tok c (duty k ⟨n, hn⟩).1 (duty k ⟨n, hn⟩).2.1 (duty k ⟨n, hn⟩).2.2) (N : ℕ) (hN : N ≤ 16) :
    kindToks k c ⊢ bigSep (Finset.Ico 0 N) Ψ := by
  unfold kindToks
  rw [Idealize.ShloMosaic.Ring.bigSep_fin_eq_range 16 _ Ψ h, Finset.range_eq_Ico, ← Finset.Ico_union_Ico_eq_Ico (Nat.zero_le N) hN,
    bigSep_union (Finset.Ico_disjoint_Ico_consecutive 0 N 16)]
  exact sep_elim_left
omit [FloatOps F] in
theorem kind_first (k : Fin 9) (c : Dev nD) : kindToks (F := F) k c ⊢ tok c (duty k 0).1 (duty k 0).2.1 (duty k 0).2.2 := by
  unfold kindToks; exact bigSep_elim (Finset.mem_univ 0)

/-! ## The credits -/

omit [FloatOps F] in
theorem cred_split {I : Type} [DecidableEq I] (s : Finset I) (T : I → CellTallies nD τ sig ℕ) :
    (cred (∑ i ∈ s, T i) : sProp 𝕄) = bigSep s fun i => cred (T i) := by
  induction s using Finset.induction_on with
  | empty => rw [Finset.sum_empty, cred_zero, BI.bigSep_empty]; rfl
  | insert c S hc ih => rw [Finset.sum_insert hc, BI.bigSep_insert hc, BI.Entails.antisymm (cred_add _ _).1 (cred_add _ _).2, ih]; rfl

omit [FloatOps F] in
theorem cred_both (S T : CellTallies nD τ sig ℕ) : (cred (S + T) : sProp 𝕄) = iprop(cred S ∗ cred T) :=
  BI.Entails.antisymm (cred_add _ _).1 (cred_add _ _).2

/-- What all the launch credit is. -/
theorem credit_all : (∑ c : Dev nD, ∑ sm : SemLoc sig, tallyOn ((c : Thread nD τ), sm) (launchCredit (Pipeline.owing owed₀) 0 ((c : Thread nD τ), sm)))
    = ∑ d : Dev nD, owed₀ d := by
  funext g
  refine Finsupp.ext fun u => ?_
  rw [Finset.sum_apply, Finset.sum_apply, Finsupp.finsetSum_apply, Finsupp.finsetSum_apply]
  by_cases hg : g.1.2 = .tc
  · obtain ⟨⟨d, p⟩, sm⟩ := g
    obtain rfl : p = .tc := hg
    rw [Finset.sum_eq_single d]
    · rw [Finset.sum_apply, Finsupp.finsetSum_apply, Finset.sum_eq_single sm]
      · rw [tallyOn_self, Pipeline.launchCredit_owing]
      · intro sm' _ h
        rw [tallyOn_ne (fun e => h (congrArg Prod.snd e).symm), Finsupp.zero_apply]
      · intro h; exact absurd (Finset.mem_univ _) h
    · intro d' _ h
      rw [Finset.sum_apply, Finsupp.finsetSum_apply]
      refine Finset.sum_eq_zero fun sm' _ => ?_
      rw [tallyOn_ne (fun e => h (congrArg (fun g : GSem nD τ sig => g.1.1) e).symm), Finsupp.zero_apply]
    · intro h; exact absurd (Finset.mem_univ _) h
  · rw [Finset.sum_eq_zero, Finset.sum_eq_zero]
    · intro d _
      rcases Nat.eq_zero_or_pos (owed₀ d g u) with h | h
      · exact h
      · have := (above_start d g u h).1
        rw [L_of_ne g hg] at this
        exact absurd this (Finset.notMem_empty u)
    · intro d _
      rw [Finset.sum_apply, Finsupp.finsetSum_apply]
      refine Finset.sum_eq_zero fun sm _ => ?_
      rw [tallyOn_ne (fun e => hg (by rw [e])), Finsupp.zero_apply]

/-- The credits device `c` spends. -/
def credits (c : Dev nD) : sProp 𝕄 :=
  iprop(bigSep (Finset.Ico 0 15) (fun n => iprop(cred (tallyAt (dcell c (xRecv (slot (n + 1)))) (n + 2) Nx) ∗ cred (tallyAt (dcell c (aRecv (slot (n + 1)))) (n + 2) Na)))
    ∗ bigSep (Finset.Ico 0 14) (fun n => cred (tallyAt (rcell c credS) (n + 3) 1))
    ∗ cred (tallyAt (dcell c yRecv) 17 Na) ∗ cred (tallyAt (rcell c barS) 1 2))

theorem owedX_start (c : Dev nD) : owedX c 1 = ∑ n ∈ Finset.Ico 0 15,
    (tallyAt (dcell (right c) (xRecv (slot (n + 1)))) (n + 2) Nx + tallyAt (dcell (right c) (aRecv (slot (n + 1)))) (n + 2) Na) := by
  unfold owedX; rw [Finset.sum_Ico_add' (fun j => tallyAt (dcell (right c) (xRecv (slot j))) (j + 1) Nx + tallyAt (dcell (right c) (aRecv (slot j))) (j + 1) Na) 0 15 1]
theorem owedC_start (c : Dev nD) : owedC c 1 = ∑ n ∈ Finset.Ico 0 14, tallyAt (rcell (left c) credS) (n + 3) 1 := by
  unfold owedC; exact (Finset.sum_Ico_add' (fun j => (tallyAt (rcell (left c) credS) (j + 2) 1 : CellTallies nD τ sig ℕ)) 0 14 1).symm

omit [FloatOps F] in
theorem creds_around :
    bigSep Finset.univ (fun c : Dev nD => (Pipeline.launchCred owed₀ c : sProp 𝕄)) ⊢ bigSep Finset.univ fun c : Dev nD => credits (F := F) c := by
  have h : bigSep Finset.univ (fun c : Dev nD => (Pipeline.launchCred owed₀ c : sProp 𝕄)) = cred (∑ d : Dev nD, owed₀ d) := by
    rw [← credit_all, cred_split]
    exact bigSep_congr fun c _ => (cred_split _ _).symm
  rw [h, cred_split]
  unfold owed₀ owed credits
  simp only [owedX_start, owedC_start, cred_both, cred_split, bigSep_sep']
  rw [to_left (fun c => bigSep (Finset.Ico 0 15) fun n => (cred (tallyAt (dcell c (xRecv (slot (n + 1)))) (n + 2) Nx) : sProp 𝕄)),
    to_left (fun c => bigSep (Finset.Ico 0 15) fun n => (cred (tallyAt (dcell c (aRecv (slot (n + 1)))) (n + 2) Na) : sProp 𝕄)),
    to_right (fun c => bigSep (Finset.Ico 0 14) fun n => (cred (tallyAt (rcell c credS) (n + 3) 1) : sProp 𝕄)),
    to_left (fun c => (cred (tallyAt (dcell c yRecv) 17 Na) : sProp 𝕄))]
  have hb : bigSep Finset.univ (fun c : Dev nD => (cred (tallyAt (rcell c barS) 1 2) : sProp 𝕄))
      = iprop(bigSep Finset.univ (fun c : Dev nD => (cred (tallyAt (rcell (right c) barS) 1 1) : sProp 𝕄))
        ∗ bigSep Finset.univ (fun c : Dev nD => (cred (tallyAt (rcell (left c) barS) 1 1) : sProp 𝕄))) := by
    rw [← to_left (fun c => (cred (tallyAt (rcell c barS) 1 1) : sProp 𝕄)), ← to_right (fun c => (cred (tallyAt (rcell c barS) 1 1) : sProp 𝕄)),
      ← bigSep_sep']
    exact bigSep_congr fun c _ => by rw [← cred_both, tallyAt_add]
  rw [hb]
  iintro ⟨⟨⟨⟨⟨H1, H2⟩, H3⟩, H4⟩, H5⟩, H6⟩
  isplitl [H1 H2]
  · isplitl [H1] <;> iassumption
  isplitl [H3]; · iexact H3
  isplitl [H4]; · iexact H4
  isplitl [H5] <;> iassumption

end Cert.KernelIdeal.Ring

end
-- ==== Proof.KernelIdeal.Launch.lean ====
/- The launch: the ring's state funded, the program run, and what every device holds at the end. -/
module

public import proofs.«01_k».proof.Proof.KernelIdeal.Deal

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig ℕ (Elt F) ℕ UU ℕ

variable (m : (ℓ : Loc nD τ sig) → Buf (Elt F) ℓ)

theorem cells_apart : Disjoint barCells scCells := by
  rw [Finset.disjoint_left]
  rintro g h₁ h₂
  obtain ⟨c, -, rfl⟩ := Finset.mem_map.mp h₁
  obtain ⟨ck, -, h⟩ := Finset.mem_map.mp h₂
  exact (show ∀ k : Fin 11, osem k ≠ .reg barS by decide) ck.2 (congrArg Prod.snd h)

/-- The ghost state at launch: the staging cells' and the ring's. -/
def u₀ : UU :=
  (initOf (Pipeline.cells (Pipeline.pin (pcfgs (F := F)) adm) cellOf_inj) (Pipeline.launchToks (Pipeline.pin (pcfgs (F := F)) adm) cellOf_inj),
    launchOf barCells scCells ringToks)

/-- The ring's ghost state, whole, at the first device. -/
def seed (c : Dev nD) : sProp 𝕄 := if c = 0 then BI.own (ER (launchOf barCells scCells ringToks)) else iprop(emp)
omit [FloatOps F] in
theorem seed_all : bigSep Finset.univ (seed (F := F)) = BI.own (ER (launchOf barCells scCells ringToks)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, BI.bigSep_emp_const]
  unfold seed; rw [if_pos rfl]
  exact BI.equiv_iff.mp sep_emp

/-- What all devices may know: the invariants, and that every barrier cell is at its start. -/
def known (K : GSem nD τ sig → ℕ) : sProp 𝕄 := iprop(invs (xOp m) (wOp m) K ∗ bigSep barCells fun g => reached ER g 0)
instance known_persistent (K : GSem nD τ sig → ℕ) : BI.Persistent (known m K) := by unfold known; infer_instance

theorem bar_start (K : GSem nD τ sig → ℕ) (c : Dev nD) : known m K ⊢ reached ER (rcell c barS) 0 :=
  sep_elim_right.trans (bigSep_elim (Finset.mem_map_of_mem barEmb (Finset.mem_univ c)))

/-- What a device is dealt of the ring. -/
def share (c : Dev nD) : sProp 𝕄 :=
  iprop(atPos ER (rcell c barS) 0 ∅ 0 ∗ bigSep Finset.univ (fun k : Fin 11 => openTok ER ((c : Thread nD τ), osem k))
    ∗ (kindToks 0 c ∗ kindToks 1 c ∗ kindToks 2 (right c) ∗ kindToks 3 (right c) ∗ kindToks 4 (left c)
        ∗ kindToks 5 (left c) ∗ kindToks 6 (right c) ∗ kindToks 7 c ∗ kindToks 8 (right c)))

/-- The tokens and credits are those the body's steps use. -/
theorem stock_intro (c : Dev nD) :
    iprop((kindToks 0 c ∗ kindToks 1 c ∗ kindToks 2 (right c) ∗ kindToks 3 (right c) ∗ kindToks 4 (left c) ∗ kindToks 7 c ∗ kindToks 8 (right c))
      ∗ bigSep (Finset.Ico 0 15) (fun n => iprop(cred (tallyAt (dcell c (xRecv (slot (n + 1)))) (n + 2) Nx) ∗ cred (tallyAt (dcell c (aRecv (slot (n + 1)))) (n + 2) Na)))
      ∗ bigSep (Finset.Ico 0 14) (fun n => cred (tallyAt (rcell c credS) (n + 3) 1)) ∗ cred (tallyAt (dcell c yRecv) 17 Na))
      ⊢ (stock c : sProp 𝕄) := by
  unfold stock lastStart toks gifts
  simp only [bigSep_sep']
  iintro ⟨⟨H0, H1, H2, H3, H4, H7, H8⟩, ⟨Cx, Ca⟩, Cc, Cy⟩
  isplitl [H0 H1 H2 H3 Cx Ca]
  · isplitl [H0 H1]
    · isplitl [H0]
      · iapply (kind_range 0 c (fun n => dutyTok ER (dcell c (xSend (slot n))) (n / 2) true) (fun n hn => rfl) 15 (by decide)); iexact H0
      iapply (kind_range 1 c (fun n => dutyTok ER (dcell c (aSend (slot n))) (n / 2) true) (fun n hn => rfl) 15 (by decide)); iexact H1
    isplitl [H2 H3]
    · isplitl [H2]
      · iapply (kind_range 2 (right c) (fun n => dutyTok ER (dcell (right c) (xRecv (slot (n + 1)))) (n / 2) true) (fun n hn => rfl) 15 (by decide)); iexact H2
      iapply (kind_range 3 (right c) (fun n => dutyTok ER (dcell (right c) (aRecv (slot (n + 1)))) (n / 2) true) (fun n hn => rfl) 15 (by decide)); iexact H3
    isplitl [Cx] <;> iassumption
  isplitl [H4 Cc]
  · isplitl [H4]
    · iapply (kind_range 4 (left c) (fun n => dutyTok ER (rcell (left c) credS) n true) (fun n hn => rfl) 14 (by decide)); iexact H4
    iexact Cc
  isplitl [H7 H8]
  · isplitl [H7]
    · iapply (show kindToks 7 c ⊢ (dutyTok ER (dcell c ySend) 0 true : sProp 𝕄) from kind_first 7 c); iexact H7
    iapply (show kindToks 8 (right c) ⊢ (dutyTok ER (dcell (right c) yRecv) 0 true : sProp 𝕄) from kind_first 8 (right c)); iexact H8
  iexact Cy

/-- What rides along with the buffers up to the region, and after it. -/
def rest (j : Fin 2) (c : Dev nD) : sProp 𝕄 :=
  match j with
  | 0 => iprop(Tk m c ∗ (∃ r, prngReg c r) ∗ owing c (owed₀ c))
  | 1 => iprop(Yk c ∗ (∃ r, prngReg c r) ∗ owing c 0)

theorem rest_intro (K : GSem nD τ sig → ℕ) (c : Dev nD) :
    iprop(known m K ∗ (share c ∗ credits c ∗ (∃ r, prngReg c r) ∗ owing c (owed₀ c))) ⊢ rest m 0 c := by
  unfold share credits rest Tk meet pos
  iintro ⟨#Hk, ⟨Hat, Hop, H0, H1, H2, H3, H4, H5, H6, H7, H8⟩, ⟨Cxa, Cc, Cy, Cb⟩, Hp, HO⟩
  ihave #Hc := (bar_start m K c) $$ Hk
  ihave #HL := (bar_start m K (left c)) $$ Hk
  ihave #HR := (bar_start m K (right c)) $$ Hk
  isplitr [Hp HO]
  · isplitl [Hat Hop]
    · iexists K
      isplitr; · iapply (show known m K ⊢ invs (xOp m) (wOp m) K from sep_elim_left); iexact Hk
      isplitl [Hop]; · iexact Hop
      isplitl [Hat]; · iexact Hat
      iexact Hc
    isplitl [H5 H6 Cb]
    · isplitl [H5]
      · isplitl [H5]; · iapply (show kindToks 5 (left c) ⊢ (dutyTok ER (rcell (left c) barS) 0 true : sProp 𝕄) from kind_first 5 (left c)); iexact H5
        iexact HL
      isplitl [H6]
      · isplitl [H6]; · iapply (show kindToks 6 (right c) ⊢ (dutyTok ER (rcell (right c) barS) 0 false : sProp 𝕄) from kind_first 6 (right c)); iexact H6
        iexact HR
      iexact Cb
    iapply (stock_intro c)
    isplitl [H0 H1 H2 H3 H4 H7 H8]
    · isplitl [H0]; · iexact H0
      isplitl [H1]; · iexact H1
      isplitl [H2]; · iexact H2
      isplitl [H3]; · iexact H3
      isplitl [H4]; · iexact H4
      isplitl [H7] <;> iassumption
    isplitl [Cxa]; · iexact Cxa
    isplitl [Cc] <;> iassumption
  isplitl [Hp] <;> iassumption

omit [FloatOps F] in
theorem unscoped_bar (c : Dev nD) : (unscopedSems0 c : sProp 𝕄) = semVal (rcell c barS) 0 := by
  unfold unscopedSems0
  rw [show (Finset.univ.filter fun sm : SemLoc sig => ¬ sm.isScoped .tc) = {SemLoc.reg barS} from by decide, BI.bigSep_singleton]

/-- The ring's state, dealt from what the launch hands over. -/
theorem deal (ρ : Dev nD → PrngReg) :
    iprop(bigSep Finset.univ fun c : Dev nD => iprop(unscopedSems0 c ∗ owes (c : Thread nD τ) (owed₀ c) ∅ ∗ Pipeline.launchCred owed₀ c ∗ prngReg c (ρ c) ∗ seed c))
      ⊢ (|={Set.univ}=> bigSep Finset.univ (rest m 0) : sProp 𝕄) := by
  have hv : bigSep Finset.univ (fun c : Dev nD => (unscopedSems0 c : sProp 𝕄)) = bigSep barCells (fun g => (semVal g 0 : sProp 𝕄)) := by
    unfold barCells; rw [bigSep_map]; exact bigSep_congr fun c _ => unscoped_bar c
  have hat : bigSep barCells (fun g => (atPos ER g 0 ∅ 0 : sProp 𝕄)) = bigSep Finset.univ (fun c : Dev nD => (atPos ER (rcell c barS) 0 ∅ 0 : sProp 𝕄)) := by
    unfold barCells; rw [bigSep_map]; rfl
  have hop : bigSep scCells (fun g => (openTok ER g : sProp 𝕄))
      = bigSep Finset.univ (fun c : Dev nD => bigSep Finset.univ (fun k : Fin 11 => (openTok ER ((c : Thread nD τ), osem k) : sProp 𝕄))) := by
    unfold scCells; rw [bigSep_map, bigSep_univ_prod]; rfl
  have hshare := Entails.of_eq (show iprop(bigSep Finset.univ (fun c : Dev nD => (atPos ER (rcell c barS) 0 ∅ 0 : sProp 𝕄))
      ∗ bigSep Finset.univ (fun c : Dev nD => bigSep Finset.univ (fun k : Fin 11 => (openTok ER ((c : Thread nD τ), osem k) : sProp 𝕄)))
      ∗ bigSep Finset.univ (fun c : Dev nD => iprop(kindToks 0 c ∗ kindToks 1 c ∗ kindToks 2 (right c) ∗ kindToks 3 (right c) ∗ kindToks 4 (left c)
        ∗ kindToks 5 (left c) ∗ kindToks 6 (right c) ∗ kindToks 7 c ∗ kindToks 8 (right c))))
      = bigSep Finset.univ (fun c => share (F := F) c) by unfold share; rw [← bigSep_sep', ← bigSep_sep'])
  have hO : bigSep Finset.univ (fun c : Dev nD => (owes (c : Thread nD τ) (owed₀ c) ∅ : sProp 𝕄)) ⊢ bigSep Finset.univ fun c : Dev nD => owing (F := F) c (owed₀ c) :=
    bigSep_mono fun c _ => show (owes (c : Thread nD τ) (owed₀ c) ∅ : sProp 𝕄) ⊢ owing c (owed₀ c) by unfold owing; iintro H; iexists ∅; iexact H
  have hp : bigSep Finset.univ (fun c : Dev nD => (prngReg c (ρ c) : sProp 𝕄)) ⊢ bigSep Finset.univ fun c : Dev nD => iprop(∃ r, prngReg c r) :=
    bigSep_mono fun c _ => show (prngReg c (ρ c) : sProp 𝕄) ⊢ iprop(∃ r, prngReg c r) by iintro H; iexists (ρ c); iexact H
  rw [bigSep_sep', bigSep_sep', bigSep_sep', bigSep_sep', hv, seed_all]
  iintro ⟨Hv, HO, Hcr, Hp, Hu⟩
  imod (Rounds.fund_launch ER (ringRd (xOp m) (wOp m)) cells_apart (fun g _ h => h) ringToks) $$ [Hv Hu] with ⟨%K, -, #Hinv, #Hr, Hat, Hopen, Htok⟩
  · isplitl [Hv] <;> iassumption
  imodintro
  ihave Hcr := (creds_around (F := F)) $$ Hcr
  ihave HO := hO $$ HO
  ihave Hp := hp $$ Hp
  ihave Hat := (Entails.of_eq hat) $$ Hat
  ihave Hopen := (Entails.of_eq hop) $$ Hopen
  ihave Htok := (Entails.of_eq (toks_around (F := F))) $$ Htok
  iapply (bigSep_with_persistent (R := known m K)
    (Φ := fun c => iprop(share c ∗ credits c ∗ (∃ r, prngReg c r) ∗ owing c (owed₀ c))) fun c _ => rest_intro m K c)
  isplitr
  · unfold known invs
    isplitr; · iexact Hinv
    iexact Hr
  iapply (Entails.of_eq (bigSep_sep' Finset.univ (fun c => share (F := F) c) _).symm)
  isplitl [Hat Hopen Htok]
  · iapply hshare
    isplitl [Hat]; · iexact Hat
    isplitl [Hopen] <;> iassumption
  iapply (Entails.of_eq (bigSep_sep' Finset.univ (fun c => credits (F := F) c) _).symm)
  isplitl [Hcr]; · iexact Hcr
  iapply (Entails.of_eq (bigSep_sep' Finset.univ (fun c : Dev nD => (iprop(∃ r, prngReg c r) : sProp 𝕄)) _).symm)
  isplitl [Hp] <;> iassumption

/-! ## Into the region and out of it -/

theorem arr_sub : Pipeline.arrRefs (τ := τ) spec0 ⊆ Pipeline.ucRefs τ sig := by decide

theorem into (c : Dev nD) : iprop(StableHlo.held (c : Thread nD τ) (Pipeline.ucRefs τ sig) (V7 m c) ∗ rest m 0 c) ⊢ (reg m).pre c := by
  have e : (reg m).pre c = iprop(StableHlo.held (c : Thread nD τ) (Pipeline.arrRefs (τ := τ) spec0) (V7 m c) ∗ (∃ r, prngReg c r)
      ∗ (StableHlo.held (c : Thread nD τ) ∅ (V7 m c) ∗ others m c) ∗ Tk m c ∗ ∃ W, owes (c : Thread nD τ) (0 + owed₀ c) W) := rfl
  rw [e, StableHlo.held_sub_split (c : Thread nD τ) arr_sub, zero_add]
  unfold rest others StableHlo.held owing
  rw [BI.bigSep_empty]
  iintro ⟨⟨Ha, Hb⟩, HT, Hp, HO⟩
  isplitl [Ha]; · iexact Ha
  isplitl [Hp]; · iexact Hp
  isplitl [Hb]
  · isplitr; · iempintro
    iexact Hb
  isplitl [HT] <;> iassumption

theorem outof (c : Dev nD) : (reg m).post c ⊢ iprop(StableHlo.held (c : Thread nD τ) (Pipeline.ucRefs τ sig) (Vend m c) ∗ rest m 1 c) := by
  have e : (reg m).post c = iprop(StableHlo.held (c : Thread nD τ) (Pipeline.arrRefs (τ := τ) spec0) (Vend m c) ∗ (∃ r, prngReg c r)
      ∗ (StableHlo.held (c : Thread nD τ) ∅ (Vend m c) ∗ others m c) ∗ Yk c ∗ ∃ W, owes (c : Thread nD τ) (0 : CellTallies nD τ sig ℕ) W) := rfl
  have ho : others m c = StableHlo.held (c : Thread nD τ) (Pipeline.ucRefs τ sig \ Pipeline.arrRefs (τ := τ) spec0) (Vend m c) := by
    unfold others
    refine StableHlo.held_congr (c : Thread nD τ) fun b hb => (Vend_of m c b ?_).symm
    rintro rfl
    exact (Finset.mem_sdiff.mp hb).2 (by decide)
  rw [e, StableHlo.held_sub_split (c : Thread nD τ) arr_sub, ho]
  unfold rest owing
  iintro ⟨Ha, Hp, ⟨-, Hb⟩, HT, HO⟩
  isplitl [Ha Hb]
  · isplitl [Ha] <;> iassumption
  isplitl [HT]; · iexact HT
  isplitl [Hp] <;> iassumption

/-! ## The run -/

/-- What every device holds at the end, and that its semaphores are at rest. -/
def Ended (c : Dev nD) (s : MemSt nD τ sig (Elt F)) : Prop :=
  (∀ r : Ref sig .tc, Proc.devRef .tc r ∈ Pipeline.ucRefs τ sig → s.mem ((c : Thread nD τ).loc r) = Vend m c r) ∧ s.sem (rcell c barS) = 0

theorem unscoped_only : ∀ sm : SemLoc sig, sm.isScoped .tc = false → sm = .reg barS := by decide

set_option backward.isDefEq.respectTransparency.types false in
/-- Every execution ends with each device's buffers as computed and every semaphore at zero. -/
theorem run (ρ : Dev nD → PrngReg) :
    θ_run defs (onTc (τ := τ) (main (F := F))) ⟨m, fun _ => 0, ρ⟩ (fun r => (∀ c, Ended m c r.2) ∧ r.2.sem = fun _ => 0) := by
  refine Pipeline.θ_run_regions_kit_dev_sems (pcfgs (F := F)) adm (dats m) 0 cellOf_inj EP defs₀ 𝒱₀ L lv m ρ main
    (segs m 𝒱₀ L lv (rest m) 0 (dats m) (reg m))
    (fun c Q => by
      rewrite [main_chain c, Seg.run_eq_chain,
        show (segs m 𝒱₀ L lv (rest m) 0 (dats m) (reg m) c).map Seg.prog = [
          StableHlo.seq hostOps0,
          StableHlo.seq hostOps0_1,
          StableHlo.seq hostOps0_2,
          StableHlo.seq hostOps0_3,
          StableHlo.seq (hostOps0_4 c),
          StableHlo.seq hostOps0_5,
          StableHlo.seq hostOps0_6,
          Prog.lift (.customCall (Pipeline.entry 0) ()) ] from rfl]
      dsimp (config := { failIfUnchanged := false }) only
      exact .rfl)
    (fun c => by simp only [segs, Seg.pipes_host, Seg.pipes_region, Seg.pipes_nil]; decide) owed₀ L_of_ne seed (u₀ (F := F)) ?_
    (T₀ := fun c => iprop(StableHlo.held (c : Thread nD τ) (Pipeline.ucRefs τ sig) (V0 m c) ∗ rest m 0 c))
    (Tₙ := fun c => iprop(StableHlo.held (c : Thread nD τ) (Pipeline.ucRefs τ sig) (Vend m c) ∗ semVal (rcell c barS) 0))
    (hch := fun c => ⟨.rfl, .rfl, .rfl, .rfl, .rfl, .rfl, .rfl, into m c, (outof m c).trans ?_⟩)
    (hinit := ?_) (QY := Ended m) (hfin := fun c s' => ?_) (hQ := fun s h hs => ⟨h, ?_⟩)
  · unfold u₀
    iintro Hu
    ihave H := (ownU_pair _ _) $$ Hu
    icases H with ⟨HP, HX⟩
    imodintro
    isplitl [HP]; · iexact HP
    rw [seed_all]; iexact HX
  · show iprop(StableHlo.held (c : Thread nD τ) (Pipeline.ucRefs τ sig) (Vend m c) ∗ (Yk c ∗ (∃ r, prngReg c r) ∗ owing c 0)) ⊢ _
    unfold Yk owing
    iintro ⟨Hh, Hb, -, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (owed₀ c) ∅ ∗ Pipeline.launchCred owed₀ c ∗ prngReg c (ρ c) ∗ seed c))
        = (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owed₀ c) ∅ ∗ Pipeline.launchCred owed₀ c ∗ prngReg c (ρ c) ∗ seed c))
            : sProp 𝕄) := by
      rw [← bigSep_sep']
      exact bigSep_congr fun c _ => by rw [← Pipeline.unscopedBufs_held (Ix := ℕ) (Name := ℕ) (U := UU) (Lvl := ℕ) c (V0 m c)]
    rw [hsplit]
    iintro ⟨⟨Hh, Hr⟩, -⟩
    imod (deal m ρ) $$ Hr with HE
    imodintro
    rw [bigSep_sep']
    isplitl [Hh] <;> iassumption
  · unfold StableHlo.held
    iintro ⟨⟨Hh, Hb⟩, HSI⟩
    icombine HSI Hb gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨fun r hr => h (Proc.devRef .tc r) hr, by simpa using hb⟩
    · iexact HSI
  · exact sem_eq_zero hs fun c sm hsm => by
      obtain rfl := unscoped_only sm hsm
      exact (h c).2

end Cert.KernelIdeal.Ring

end
-- ==== Proof.KernelIdeal.Frame.lean ====
/- The run in the claims' terms: the result as the ring leaves it, the arguments unchanged, every semaphore at zero. -/
module

public import proofs.«01_k».proof.Proof.KernelIdeal.Launch
public import Idealize.ShloMosaic.Lib.StableHlo.RunHlo

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- A reference that no host stretch writes, and that isn't the kernel's result, ends as launched. -/
theorem Vend_kept (c : Dev nD) (r : Ref sig .tc)
    (h : r ∉ hostOps0_W ∧ r ∉ hostOps0_1_W ∧ r ∉ hostOps0_2_W ∧ r ∉ hostOps0_3_W ∧ r ∉ hostOps0_4_W ∧ r ∉ hostOps0_5_W ∧ r ∉ hostOps0_6_W)
    (hy : Proc.devRef (τ := τ) .tc r ≠ Proc.devRef .tc main_v33) : Vend m c r = m ((c : Thread nD τ).loc r) :=
  (Vend_of m c _ hy).trans <| (V7_of m c r h.2.2.2.2.2.2).trans <| (V6_of m c r h.2.2.2.2.2.1).trans <| (V5_of m c r h.2.2.2.2.1).trans <|
    (V4_of m c r h.2.2.2.1).trans <| (V3_of m c r h.2.2.1).trans <| (V2_of m c r h.2.1).trans <| (V1_of m c r h.1).trans rfl

/-- The program's run: on every device the result is what the ring leaves there, and the arguments are as launched. -/
theorem run_full (ρ : Dev nD → PrngReg) :
    θ_run defs (onTc (τ := τ) (main (F := F))) ⟨m, fun _ => 0, ρ⟩ (fun r => (∀ c : Dev nD,
      r.2.mem ((c.tc : Thread nD τ).loc main_v33) = yOp m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine θ_run_mono (run m ρ) fun r h => ⟨fun c => ?_, h.2⟩
  have e := (h.1 c).1
  have k (b : Ref sig .tc) (hb : b ∈ ({main_arg0, main_arg1, main_arg2, main_arg3} : Finset (Ref sig .tc))) :
      r.2.mem ((c.tc : Thread nD τ).loc b) = m ((c.tc : Thread nD τ).loc b) := by
    have := (show ∀ b ∈ ({main_arg0, main_arg1, main_arg2, main_arg3} : Finset (Ref sig .tc)), Proc.devRef (τ := τ) .tc b ∈ Pipeline.ucRefs τ sig
      ∧ (b ∉ hostOps0_W ∧ b ∉ hostOps0_1_W ∧ b ∉ hostOps0_2_W ∧ b ∉ hostOps0_3_W ∧ b ∉ hostOps0_4_W ∧ b ∉ hostOps0_5_W ∧ b ∉ hostOps0_6_W)
      ∧ Proc.devRef (τ := τ) .tc b ≠ Proc.devRef .tc main_v33 by decide) b hb
    exact (e b this.1).trans (Vend_kept m c b this.2.1 this.2.2)
  exact ⟨(e main_v33 (by decide)).trans (Vend_y m c), k _ (by decide), k _ (by decide), k _ (by decide), k _ (by decide)⟩

end Cert.KernelIdeal.Ring

end
-- ==== Proof.KernelIdeal.Host.lean ====
/- What the host hands the ring: the routing weights of a device's tokens, rolled by the device's place, beside the
   tokens. Each stretch of host operations as one term of the buffers before it. -/
module

public import proofs.«01_k».proof.Proof.KernelIdeal.Region
public import Idealize.ShloMosaic.Lib.StableHlo.RunRead

@[expose] public section

noncomputable section

namespace Cert.KernelIdeal.Ring

open Idealize.ShloMosaic Idealize.ShloMosaic.TcCoe Idealize.SL Idealize.SL.Sem
open Cert.KernelIdeal.Gen

variable {F : FTy → Type} [FloatOps F]

/-! ## The terms -/

/-- The tokens' scores of every expert. -/
def scores (x : FVec F S1024x512 .f32) (w : FVec F S512x64 .f32) : FVec F S1024x64 .f32 :=
  Host.dotGeneral dot_S1024x512_S512x64_S1024x64_1_0_0_1_n_n none x w

/-- A vector of one value a token, at every expert. -/
def spread (v : FVec F S1024 .f32) : FVec F S1024x64 .f32 :=
  broadcastInDim S1024x64 ![0, 1] bcast_S1024x1_S1024x64_0_1 (broadcastInDim S1024x1 ![0] bcast_S1024_S1024x1_0 v)

/-- Each row over its sum. -/
def normalized (v : FVec F S1024x64 .f32) : FVec F S1024x64 .f32 :=
  Host.divf v (spread (Host.reduceAdd v (constant S_ .f32 0x00000000#32) reducesTo_S1024x64_S1024_d1 h_S_))

/-- The softmax of each row. -/
def softmax (s : FVec F S1024x64 .f32) : FVec F S1024x64 .f32 :=
  normalized (Host.exp (subf s (spread (maximumf (broadcastInDim S1024 ![] bcast_S_S1024 (constant S_ .f32 0xFF800000#32))
    (Host.reduce FloatOps.maximumf s (constant S_ .f32 0xFF800000#32) reducesTo_S1024x64_S1024_d1 h_S_)))))

/-- The first, and the second, chosen expert of every token. -/
def choice₀ (r : IVec S1024x2 32) : IVec S1024 32 :=
  shapeCast S1024 (extractStridedSlice S1024x1 ![0, 0] r slices_S1024x2_S1024x1_0_0) shapeCasts_S1024x1_S1024
def choice₁ (r : IVec S1024x2 32) : IVec S1024 32 :=
  shapeCast S1024 (extractStridedSlice S1024x1 ![0, 1] r slices_S1024x2_S1024x1_0_1) shapeCasts_S1024x1_S1024

/-- The one-hot rows of a vector of experts. -/
def oneHot (i : IVec S1024 32) : FVec F S1024x64 .f32 :=
  uitofp .f32 (cmpi .eq
    (broadcastInDim S1024x64 ![0, 1] bcast_S1024x1_S1024x64_0_1 (broadcastInDim S1024x1 ![0] bcast_S1024_S1024x1_0 i))
    (broadcastInDim S1024x64 ![0, 1] bcast_S1x64_S1024x64_0_1 (iotaInDim S1x64 32 1)))

/-- The roll's amount on device `c`. -/
def shift (c : Dev nD) : IVec S_ 32 :=
  muli (constantI S_ 32 4294967292#32) (Host.remui (Host.divui (constantI S_ 32 (Dev.word c)) (constantI S_ 32 1#32)) (constantI S_ 32 16#32))

/-- A one-word tensor of a value. -/
abbrev word (b : BitVec 32) : IVec S_ 32 := constantI S_ 32 b

/-- The roll's modulus, and the amount's remainder by it, with the sign of the amount and then with the modulus's. -/
def modulus : IVec S_ 32 := select (cmpi .eq (maxsi (word 64#32) (word 1#32)) (word 0#32)) (word 1#32) (maxsi (word 64#32) (word 1#32))
def signedRest (s : IVec S_ 32) : IVec S_ 32 :=
  Host.remsi (shapeCast S_ (extractStridedSlice S1 ![0] (broadcastInDim S1 ![] bcast_S_S1 s) slices_S1_S1_0) shapeCasts_S1_S_) modulus
def residue (s : IVec S_ 32) : IVec S_ 32 :=
  select (andi (cmpi .ne (cmpi .slt (signedRest s) (word 0#32)) (cmpi .slt modulus (word 0#32))) (cmpi .ne (signedRest s) (word 0#32)))
    (addi (signedRest s) modulus) (signedRest s)

/-- Where in the doubled row the rolled row begins, from the roll's amount. -/
def rollStart (s : IVec S_ 32) : IVec S_ 32 :=
  select (cmpi .slt (subi (word 64#32) (residue s)) (word 0#32)) (addi (subi (word 64#32) (residue s)) (word 128#32))
    (subi (word 64#32) (residue s))

/-- On device `c` it begins at column `4c`, or at the second copy's first column. -/
theorem rollStart_shift : ∀ c : Dev nD, (rollStart (shift c) (Shape.Idx.first h_S_)).toInt = (if c.val = 0 then 64 else 4 * c.val : ℕ) := by
  decide

/-- The rows written twice side by side, cut from a column on. -/
def rolled (g : FVec F S1024x64 .f32) (start : Fin 2 → Int) : FVec F S1024x64 .f32 :=
  Host.dynamicSlice S1024x64
    (concatenate S1024x128 1 [⟨S1024x64, g⟩, ⟨S1024x64, g⟩] concatenates_S1024x64_S1024x64_S1024x128_d1) start
    sliceFits_S1024x128_S1024x64

/-! ## The stretches -/

section Stretches
variable (V : Valuation τ sig (Elt F)) (c : Dev nD)

theorem host_probs : StableHlo.after hostOps0 V main_v12 = softmax (scores (V main_arg0) (V main_arg1)) := by
  after_reads_simp
  rfl

theorem host_choice₀ : StableHlo.after hostOps0 V main_v14 = choice₀ (V main_arg2) := by
  after_reads_simp
  rfl

theorem host_hot₀ : StableHlo.after hostOps0_1 V main_v15 = oneHot (V main_v14) := by
  after_reads_simp
  simp -implicitDefEqProofs only [StableHlo.TRef.toBuf, StableHlo.TRef.ofBuf, cast_cast, cast_eq]
  rfl

theorem host_choice₁ : StableHlo.after hostOps0_2 V main_v17 = choice₁ (V main_arg2) := by
  after_reads_simp
  rfl

theorem host_hot₁ : StableHlo.after hostOps0_3 V main_v18 = oneHot (V main_v17) := by
  after_reads_simp
  simp -implicitDefEqProofs only [StableHlo.TRef.toBuf, StableHlo.TRef.ofBuf, cast_cast, cast_eq]
  rfl

theorem host_weights : StableHlo.after (hostOps0_4 c) V main_v24 = normalized (mulf (V main_v12) (addf (V main_v15) (V main_v18))) := by
  after_reads_simp
  rfl

theorem host_shift : StableHlo.after (hostOps0_4 c) V main_v29 = shift c := by
  after_reads_simp
  rfl

theorem host_rollStart : StableHlo.upto hostOps0_5 V 30 main_call2_v9 = rollStart (V main_v29) := by
  after_reads_simp
  simp -implicitDefEqProofs only [StableHlo.TRef.toBuf, StableHlo.TRef.ofBuf, cast_cast, cast_eq]
  have e : (fun i => shapeCast main_call2_v2.ty.shape (extractStridedSlice S1 ![0] (broadcastInDim S1 ![] bcast_S_S1 (V main_v29)) slices_S1_S1_0) shapeCasts_S1_S_ i)
      = shapeCast S_ (extractStridedSlice S1 ![0] (broadcastInDim S1 ![] bcast_S_S1 (V main_v29)) slices_S1_S1_0) shapeCasts_S1_S_ := rfl
  simp only [e]
  rfl

theorem host_rolled_at (z : Int) (hz : (StableHlo.upto hostOps0_5 V 30 main_call2_v9 (Shape.Idx.first h_S_) : BitVec 32).toInt = z) :
    StableHlo.after hostOps0_5 V main_v30 = rolled (V main_v24) ![0, z] := by
  after_reads_simp
  simp -implicitDefEqProofs only [StableHlo.TRef.toBuf, StableHlo.TRef.ofBuf, cast_cast, cast_eq]
  have e : StableHlo.upto hostOps0_5 V 21 main_v24 = V main_v24 := by after_reads_simp
  rw [e]
  refine congrArg (rolled (V main_v24)) (funext (Fin.forall_fin_two.mpr ⟨?_, ?_⟩))
  · rfl
  · exact hz

theorem host_rolled : StableHlo.after hostOps0_5 V main_v30
    = rolled (V main_v24) ![0, (rollStart (V main_v29) (Shape.Idx.first h_S_)).toInt] :=
  host_rolled_at V _ (by rw [host_rollStart V])

theorem host_rows : StableHlo.after hostOps0_6 V main_v31
    = concatenate S1024x576 1 [⟨S1024x512, V main_arg0⟩, ⟨S1024x64, V main_v30⟩] concatenates_S1024x512_S1024x64_S1024x576_d1 := by
  after_reads_simp
  rfl

theorem host_blocks : StableHlo.after hostOps0_6 V main_v32 = shapeCast S2048x1024 (V main_arg3) shapeCasts_S4x512x1024_S2048x1024 := by
  after_reads_simp
  rfl

end Stretches

/-! ## The ring's operands -/

variable (m : (ℓ : Loc nD τ sig) → Buf (Elt F) ℓ) (c : Dev nD)

/-- Device `c`'s arguments. -/
abbrev tokens : FVec F S1024x512 .f32 := m ((c.tc : Thread nD τ).loc main_arg0)
abbrev router : FVec F S512x64 .f32 := m ((c.tc : Thread nD τ).loc main_arg1)
abbrev routes : IVec S1024x2 32 := m ((c.tc : Thread nD τ).loc main_arg2)
abbrev experts : FVec F S4x512x1024 .f32 := m ((c.tc : Thread nD τ).loc main_arg3)

/-- The routing weights of the device's tokens. -/
def weights : FVec F S1024x64 .f32 :=
  normalized (mulf (softmax (scores (tokens m c) (router m c))) (addf (oneHot (choice₀ (routes m c))) (oneHot (choice₁ (routes m c)))))

theorem V5_weights : V5 m c main_v24 = weights m c := by
  have e₁₂ : V4 m c main_v12 = softmax (scores (tokens m c) (router m c)) :=
    (V4_of m c main_v12 (by decide)).trans <| (V3_of m c main_v12 (by decide)).trans <| (V2_of m c main_v12 (by decide)).trans <|
      host_probs (V0 m c)
  have e₁₅ : V4 m c main_v15 = oneHot (choice₀ (routes m c)) :=
    (V4_of m c main_v15 (by decide)).trans <| (V3_of m c main_v15 (by decide)).trans <|
      (host_hot₀ (V1 m c)).trans (congrArg oneHot (host_choice₀ (V0 m c)))
  have e₁₈ : V4 m c main_v18 = oneHot (choice₁ (routes m c)) :=
    (host_hot₁ (V3 m c)).trans <| congrArg oneHot <| (host_choice₁ (V2 m c)).trans <| congrArg choice₁ <|
      (V2_of m c main_arg2 (by decide)).trans <| (V1_of m c main_arg2 (by decide))
  refine (host_weights (V4 m c) c).trans ?_
  rw [e₁₂, e₁₅, e₁₈]
  rfl

/-- The tokens, and beside them their weights rolled to the device's place. -/
theorem xOp_eq : xOp m c = concatenate S1024x576 1 [⟨S1024x512, tokens m c⟩,
    ⟨S1024x64, rolled (weights m c) ![0, (rollStart (shift c) (Shape.Idx.first h_S_)).toInt]⟩] concatenates_S1024x512_S1024x64_S1024x576_d1 := by
  have e₀ : V6 m c main_arg0 = tokens m c :=
    (V6_of m c main_arg0 (by decide)).trans <| (V5_of m c main_arg0 (by decide)).trans <| (V4_of m c main_arg0 (by decide)).trans <|
      (V3_of m c main_arg0 (by decide)).trans <| (V2_of m c main_arg0 (by decide)).trans <| (V1_of m c main_arg0 (by decide))
  have e₃₀ : V6 m c main_v30 = rolled (weights m c) ![0, (rollStart (shift c) (Shape.Idx.first h_S_)).toInt] := by
    refine (host_rolled (V5 m c)).trans ?_
    have e₂₉ : V5 m c main_v29 = shift c := host_shift (V4 m c) c
    rw [V5_weights, e₂₉]
  refine (host_rows (V6 m c)).trans ?_
  rw [e₀, e₃₀]

theorem wOp_eq : wOp m c = shapeCast S2048x1024 (experts m c) shapeCasts_S4x512x1024_S2048x1024 := by
  have e₃ : V6 m c main_arg3 = experts m c :=
    (V6_of m c main_arg3 (by decide)).trans <| (V5_of m c main_arg3 (by decide)).trans <| (V4_of m c main_arg3 (by decide)).trans <|
      (V3_of m c main_arg3 (by decide)).trans <| (V2_of m c main_arg3 (by decide)).trans <| (V1_of m c main_arg3 (by decide))
  refine (host_blocks (V6 m c)).trans ?_
  rw [e₃]

end Cert.KernelIdeal.Ring

end
-- ==== Proof.Mixture.lean ====
/- The mixture of two experts as arithmetic over the extended reals: a softmax of real scores is positive and real,
   the weights that a sum of two one-hot rows keeps, normalised, and the sum over all experts that they weigh, which is
   the two chosen experts' terms. -/
module

public import Idealize.ShloMosaic.PureOps.Ideal
public import Idealize.ShloMosaic.Lib.IdealHost
public import Idealize.ShloMosaic.Lib.StableHlo.Predicate

@[expose] public section

noncomputable section

namespace Cert.Mixture

open Idealize.ShloMosaic

/-! ## Real numbers among the extended reals -/

/-- A value that is a real number. -/
def IsReal (a : EReal) : Prop := ∃ r : ℝ, a = (r : EReal)

theorem IsReal.mul {a b : EReal} : IsReal a → IsReal b → IsReal (a * b) := by
  rintro ⟨r, rfl⟩ ⟨s, rfl⟩; exact ⟨r * s, (EReal.coe_mul r s).symm⟩

theorem IsReal.add {a b : EReal} : IsReal a → IsReal b → IsReal (a + b) := by
  rintro ⟨r, rfl⟩ ⟨s, rfl⟩; exact ⟨r + s, (EReal.coe_add r s).symm⟩

theorem IsReal.sum {ι : Type} (s : Finset ι) (f : ι → EReal) (h : ∀ i, IsReal (f i)) : IsReal (∑ i ∈ s, f i) := by
  classical
  induction s using Finset.induction_on with
  | empty => exact ⟨0, rfl⟩
  | insert a s ha ih => rw [Finset.sum_insert ha]; exact (h a).add ih

theorem isReal_of_lt {a : EReal} (h : max a (-a) < ⊤) : IsReal a := by
  obtain ⟨h₁, h₂⟩ := max_lt_iff.mp h
  refine ⟨a.toReal, (EReal.coe_toReal h₁.ne ?_).symm⟩
  rintro rfl
  exact absurd h₂ (by simp)

theorem IsReal.max {a b : EReal} (ha : IsReal a) (hb : IsReal b) : IsReal (max a b) := by
  rcases max_choice a b with h | h <;> rw [h] <;> assumption

/-- The maximum of finitely many reals, folded from `⊥`, is `⊥` over none and real otherwise. -/
theorem isReal_fold_max_of {ι : Type} (s : Finset ι) (f : ι → EReal) (h : ∀ i, IsReal (f i)) :
    s = ∅ ∧ s.fold Max.max ⊥ f = ⊥ ∨ IsReal (s.fold Max.max ⊥ f) := by
  classical
  induction s using Finset.induction_on with
  | empty => exact .inl ⟨rfl, rfl⟩
  | insert a s ha ih =>
    rw [Finset.fold_insert ha]
    rcases ih with ⟨_, e⟩ | ih
    · rw [e, max_eq_left bot_le]; exact .inr (h a)
    · exact .inr ((h a).max ih)

theorem isReal_fold_max {n : ℕ} (f : Fin (n + 1) → EReal) (h : ∀ i, IsReal (f i)) :
    IsReal (Finset.univ.fold Max.max ⊥ f) :=
  (isReal_fold_max_of Finset.univ f h).resolve_left fun e => Finset.univ_nonempty.ne_empty e.1

/-- A sum of reals is the real sum. -/
theorem coe_sum {ι : Type} (s : Finset ι) (q : ι → ℝ) : ((∑ i ∈ s, q i : ℝ) : EReal) = ∑ i ∈ s, (q i : EReal) := by
  classical
  induction s using Finset.induction_on with
  | empty => rfl
  | insert a s ha ih => rw [Finset.sum_insert ha, Finset.sum_insert ha, EReal.coe_add, ih]

/-- A quotient of reals, the divisor not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-! ## The softmax -/

/-- A softmax of 64 real scores, shifted by any real, is positive and real. -/
theorem softmax_pos (s : Fin 64 → EReal) (M : EReal) (hs : ∀ e, IsReal (s e)) (hM : IsReal M) :
    ∃ q : Fin 64 → ℝ, (∀ e, 0 < q e)
      ∧ ∀ e, Ideal.div (Ideal.exp (s e - M)) (∑ e' : Fin 64, Ideal.exp (s e' - M)) = (q e : EReal) := by
  obtain ⟨μ, rfl⟩ := hM
  choose r hr using hs
  have hexp : ∀ e, Ideal.exp (s e - (μ : EReal)) = (Real.exp (r e - μ) : EReal) := fun e => by
    rw [hr e, ← EReal.coe_sub]; rfl
  have hpos : 0 < ∑ e : Fin 64, Real.exp (r e - μ) :=
    Finset.sum_pos (fun e _ => Real.exp_pos _) Finset.univ_nonempty
  refine ⟨fun e => Real.exp (r e - μ) / ∑ e' : Fin 64, Real.exp (r e' - μ), fun e => div_pos (Real.exp_pos _) hpos, fun e => ?_⟩
  rw [hexp e, Finset.sum_congr rfl fun e' _ => hexp e', ← coe_sum, div_coe _ _ hpos.ne']

/-- The probability of expert `e`: the softmax of the scores, shifted by their greatest. -/
def prob (s : Fin 64 → EReal) (e : Fin 64) : EReal :=
  Ideal.div (Ideal.exp (s e - Finset.univ.fold Max.max ⊥ s)) (∑ e' : Fin 64, Ideal.exp (s e' - Finset.univ.fold Max.max ⊥ s))

theorem prob_pos (s : Fin 64 → EReal) (hs : ∀ e, IsReal (s e)) :
    ∃ q : Fin 64 → ℝ, (∀ e, 0 < q e) ∧ ∀ e, prob s e = (q e : EReal) :=
  softmax_pos s _ hs (isReal_fold_max s hs)

/-- The float word of minus infinity. -/
theorem bits_bot : Ideal.ofBits .f32 0xFF800000#32 = ⊥ := by simp [Ideal.ofBits, Ideal.ieee]
/-- The float word of infinity. -/
theorem bits_top : Ideal.ofBits .f32 0x7F800000#32 = ⊤ := by simp [Ideal.ofBits, Ideal.ieee]

/-! ## The word of an expert -/

/-- The word that names expert `a`. -/
def name (a : Fin 64) : BitVec 32 := BitVec.ofNat 32 a.val

theorem name_wrap : ∀ a : Fin 64, Scalar.select (IntOp.cmpi .slt (name a) 0#32) (IntOp.addi (name a) 64#32) (name a) = name a := by decide
theorem name_sge : ∀ a : Fin 64, IntOp.cmpi .sge (name a) 0#32 = 1#1 := by decide
theorem name_sle : ∀ a : Fin 64, IntOp.cmpi .sle (name a) 63#32 = 1#1 := by decide
theorem name_clamp : ∀ a : Fin 64, min (name a).toInt.toNat 63 = a.val := by decide

/-- A word from 0 to 63 names an expert. -/
theorem exists_name (w : BitVec 32) (h₁ : IntOp.cmpi .sge w 0#32 = 1#1) (h₂ : IntOp.cmpi .slt w 64#32 = 1#1) : ∃ a, w = name a := by
  have h : w.toNat < 64 := by
    have e₁ : (0 : Int) ≤ w.toInt := by
      simpa [IntOp.cmpi, BitVec.sle, StableHlo.Predicate.ofBool_eq_one_iff] using h₁
    have e₂ : w.toInt < 64 := by
      simpa [IntOp.cmpi, BitVec.slt, StableHlo.Predicate.ofBool_eq_one_iff] using h₂
    rw [BitVec.toInt_eq_toNat_cond] at e₁ e₂
    split_ifs at e₁ e₂ <;> omega
  exact ⟨⟨w.toNat, h⟩, BitVec.eq_of_toNat_eq (by simp [name])⟩

/-! ## A nonnegative real factor out of a sum -/

theorem mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- Rows scaled before a product are the product scaled. -/
theorem sum_scaled {ι : Type} (s : Finset ι) (r : ℝ) (hr : 0 ≤ r) (x w : ι → EReal) :
    ∑ i ∈ s, (x i * (r : EReal)) * w i = (r : EReal) * ∑ i ∈ s, x i * w i := by
  rw [mul_sum s r hr]
  exact Finset.sum_congr rfl fun i _ => by rw [mul_comm (x i), mul_assoc]

/-! ## The weights -/

/-- The one-hot row of `a` at `e`. -/
def hot (a e : Fin 64) : EReal := if e = a then 1 else 0

theorem hot_word (a e : Fin 64) : FloatOps.uitofp (F := Ideal) .f32 (IntOp.cmpi .eq (name a) (BitVec.ofNat 32 e.val)) = hot a e := by
  have h : ∀ a e : Fin 64, IntOp.cmpi .eq (name a) (BitVec.ofNat 32 e.val) = if e = a then 1#1 else 0#1 := by decide
  rw [h, hot]
  split_ifs <;> simp [FloatOps.uitofp]

theorem hot_coe (a e : Fin 64) : hot a e = ((if e = a then 1 else 0 : ℝ) : EReal) := by
  unfold hot; split_ifs <;> rfl

/-- The routing weight of expert `e`: its probability, kept where it is chosen, over the kept probabilities' sum. -/
def weight (p : Fin 64 → EReal) (a b e : Fin 64) : EReal :=
  Ideal.div (p e * (hot a e + hot b e)) (∑ e' : Fin 64, p e' * (hot a e' + hot b e'))

/-- The weights of positive reals: each of the two choices contributes its share. -/
theorem weight_eq (p : Fin 64 → EReal) (q : Fin 64 → ℝ) (hq : ∀ e, 0 < q e) (hp : ∀ e, p e = (q e : EReal)) (a b e : Fin 64) :
    weight p a b e = (((if e = a then q a / (q a + q b) else 0) + (if e = b then q b / (q a + q b) else 0) : ℝ) : EReal) := by
  have hk : ∀ e', p e' * (hot a e' + hot b e') = ((q e' * ((if e' = a then 1 else 0) + (if e' = b then 1 else 0)) : ℝ) : EReal) := fun e' => by
    rw [hp, hot_coe, hot_coe, ← EReal.coe_add, ← EReal.coe_mul]
  have hs : ∑ e', q e' * ((if e' = a then 1 else 0) + (if e' = b then 1 else 0)) = q a + q b := by
    simp [mul_add, Finset.sum_add_distrib]
  unfold weight
  rw [hk e, Finset.sum_congr rfl fun e' _ => hk e', ← coe_sum, hs, div_coe _ _ (add_pos (hq a) (hq b)).ne']
  congr 1
  rw [mul_add, add_div]
  congr 1
  · by_cases h : e = a
    · subst h; simp
    · simp [h]
  · by_cases h : e = b
    · subst h; simp
    · simp [h]

/-- **The mixture.** All experts' terms, each row scaled by its weight, are the two chosen experts' terms. -/
theorem mixture (p : Fin 64 → EReal) (q : Fin 64 → ℝ) (hq : ∀ e, 0 < q e) (hp : ∀ e, p e = (q e : EReal)) (a b : Fin 64)
    {ι : Type} [Fintype ι] (x : ι → EReal) (W : Fin 64 → ι → EReal) :
    ∑ e : Fin 64, ∑ i, (x i * weight p a b e) * W e i
      = Ideal.div (p a) (p a + p b) * (∑ i, x i * W a i) + Ideal.div (p b) (p a + p b) * (∑ i, x i * W b i) := by
  have h0 : 0 < q a + q b := add_pos (hq a) (hq b)
  have hab : ∀ c, Ideal.div (p c) (p a + p b) = ((q c / (q a + q b) : ℝ) : EReal) := fun c => by
    rw [hp a, hp b, hp c, ← EReal.coe_add, div_coe _ _ h0.ne']
  have hnn : ∀ (c e : Fin 64), 0 ≤ (if e = c then q c / (q a + q b) else 0 : ℝ) := fun c e => by
    split_ifs
    · exact (div_pos (hq c) h0).le
    · exact le_rfl
  have hone : ∀ c : Fin 64, ∑ e : Fin 64, ((if e = c then q c / (q a + q b) else 0 : ℝ) : EReal) * ∑ i, x i * W e i
      = ((q c / (q a + q b) : ℝ) : EReal) * ∑ i, x i * W c i := fun c => by
    rw [Finset.sum_eq_single c (fun e _ he => by rw [if_neg he]; simp) (fun h => absurd (Finset.mem_univ c) h), if_pos rfl]
  have hterm : ∀ e : Fin 64, ∑ i, (x i * weight p a b e) * W e i
      = ((if e = a then q a / (q a + q b) else 0 : ℝ) : EReal) * (∑ i, x i * W e i)
        + ((if e = b then q b / (q a + q b) else 0 : ℝ) : EReal) * (∑ i, x i * W e i) := fun e => by
    rw [weight_eq p q hq hp a b e, sum_scaled _ _ (add_nonneg (hnn a e) (hnn b e)), EReal.coe_add,
      EReal.right_distrib_of_nonneg (by exact_mod_cast hnn a e) (by exact_mod_cast hnn b e)]
  rw [Finset.sum_congr rfl fun e _ => hterm e, Finset.sum_add_distrib, hone a, hone b, hab a, hab b]

/-! ## The ring's order of the experts -/

/-- Block `j` of the device `i` places right of `c`. -/
def expert (c i : Fin 16) (j : Fin 4) : Fin 64 := ⟨4 * ((c.val + i.val) % 16) + j.val, by omega⟩

/-- The ring meets every expert once. -/
theorem sum_ring (c : Fin 16) (f : Fin 64 → EReal) : ∑ i : Fin 16, ∑ j : Fin 4, f (expert c i j) = ∑ e : Fin 64, f e := by
  rw [← Fintype.sum_prod_type']
  refine Fintype.sum_bijective (fun k : Fin 16 × Fin 4 => expert c k.1 k.2) ?_ _ _ fun _ => rfl
  refine (Fintype.bijective_iff_injective_and_card _).mpr ⟨?_, by simp⟩
  rintro ⟨i, j⟩ ⟨i', j'⟩ h
  have h := congrArg Fin.val h
  simp only [expert] at h
  exact Prod.ext (Fin.ext (by show i.val = i'.val; omega)) (Fin.ext (by show j.val = j'.val; omega))

end Cert.Mixture

end
-- ==== Proof.KernelIdeal.Value.lean ====
/- What the ring leaves on a device, at a token and an output column: the sum over all experts of the token through the
   expert's matrix, scaled by the token's routing weight of the expert. -/
module

public import proofs.«01_k».proof.Proof.KernelIdeal.Host
public import proofs.«01_k».proof.Proof.Mixture
public import Idealize.ShloMosaic.Lib.Pointwise

@[expose] public section

noncomputable section

namespace Cert.KernelIdeal.Ring

open Idealize.ShloMosaic Idealize.ShloMosaic.TcCoe Idealize.SL Idealize.SL.Sem
open Cert.KernelIdeal.Gen

/-! ## The routing weights -/

theorem scores_apply (x : FVec Ideal S1024x512 .f32) (w : FVec Ideal S512x64 .f32) (t : Fin 1024) (e : Fin 64) :
    scores x w (ix2 t e) = ∑ d : Fin 512, x (ix2 t d) * w (ix2 d e) := by
  pointwise [scores]

theorem softmax_apply (s : FVec Ideal S1024x64 .f32) (t : Fin 1024) (e : Fin 64) :
    softmax s (ix2 t e) = Mixture.prob (fun e' => s (ix2 t e')) e := by
  pointwise [softmax, normalized, spread]
  rw [Mixture.bits_bot]
  simp only [bot_le, max_eq_right]
  rfl

theorem normalized_apply (s : FVec Ideal S1024x64 .f32) (t : Fin 1024) (e : Fin 64) :
    normalized s (ix2 t e) = Ideal.div (s (ix2 t e)) (∑ e' : Fin 64, s (ix2 t e')) := by
  pointwise [normalized, spread]

theorem hot₀_apply (r : IVec S1024x2 32) (t : Fin 1024) (a e : Fin 64) (h : r (ix2 t 0) = Mixture.name a) :
    oneHot (F := Ideal) (choice₀ r) (ix2 t e) = Mixture.hot a e := by
  pointwise [oneHot, choice₀]
  rw [h]
  exact Mixture.hot_word a e

theorem hot₁_apply (r : IVec S1024x2 32) (t : Fin 1024) (a e : Fin 64) (h : r (ix2 t 1) = Mixture.name a) :
    oneHot (F := Ideal) (choice₁ r) (ix2 t e) = Mixture.hot a e := by
  pointwise [oneHot, choice₁]
  rw [h]
  exact Mixture.hot_word a e

section Memory
variable (m : (ℓ : Loc nD τ sig) → Buf (Elt Ideal) ℓ)

/-- The routing weight of a token for an expert. -/
theorem weights_apply (c : Dev nD) (t : Fin 1024) (a b : Fin 64) (ha : routes m c (ix2 t 0) = Mixture.name a)
    (hb : routes m c (ix2 t 1) = Mixture.name b) (e : Fin 64) :
    weights m c (ix2 t e) = Mixture.weight (Mixture.prob fun e => ∑ d : Fin 512, tokens m c (ix2 t d) * router m c (ix2 d e)) a b e := by
  have hs : (fun e' => scores (tokens m c) (router m c) (ix2 t e')) = fun e => ∑ d : Fin 512, tokens m c (ix2 t d) * router m c (ix2 d e) :=
    funext fun e => scores_apply _ _ t e
  have hk : ∀ e', mulf (softmax (scores (tokens m c) (router m c))) (addf (oneHot (choice₀ (routes m c))) (oneHot (choice₁ (routes m c)))) (ix2 t e')
      = (Mixture.prob fun e => ∑ d : Fin 512, tokens m c (ix2 t d) * router m c (ix2 d e)) e' * (Mixture.hot a e' + Mixture.hot b e') := fun e' => by
    show softmax _ (ix2 t e') * (oneHot (F := Ideal) _ (ix2 t e') + oneHot (F := Ideal) _ (ix2 t e')) = _
    rw [softmax_apply, hs, hot₀_apply _ t a e' ha, hot₁_apply _ t b e' hb]
  unfold weights
  rw [normalized_apply, hk e, Finset.sum_congr rfl fun e' _ => hk e']
  rfl

/-! ## The ring's operands -/

theorem rolled_apply (g : FVec Ideal S1024x64 .f32) (a : ℕ) (ha : a ≤ 64) (t : Fin 1024) (e : Fin 64) :
    rolled g ![0, (a : ℤ)] (ix2 t e) = g (ix2 t ⟨(e.val + a) % 64, Nat.mod_lt _ (by omega)⟩) := by
  have h₀ : ∀ h, Host.clampedStart S1024x128 S1024x64 h ![0, (a : ℤ)] 0 = 0 := fun h => by
    simp [Host.clampedStart]
  have h₁ : ∀ h, Host.clampedStart S1024x128 S1024x64 h ![0, (a : ℤ)] 1 = a := fun h => by
    simp [Host.clampedStart]
    omega
  pointwise [rolled]
  split_ifs with h
  · rw [h₁] at h
    congr 2 <;> refine Fin.ext ?_
    · show Host.clampedStart _ _ _ _ _ + t.val = t.val
      rw [h₀]; omega
    · show Host.clampedStart _ _ _ _ _ + e.val = (e.val + a) % 64
      rw [h₁]; omega
  · exact absurd ‹_› (by decide)
  · rw [h₁] at h
    congr 2 <;> refine Fin.ext ?_
    · show Host.clampedStart _ _ _ _ _ + t.val = t.val
      rw [h₀]; omega
    · show Host.clampedStart _ _ _ _ _ + e.val - 64 = (e.val + a) % 64
      rw [h₁]; omega

theorem beside_apply (x : FVec Ideal S1024x512 .f32) (g : FVec Ideal S1024x64 .f32) (t : Fin 1024) (k : Fin 576) :
    concatenate S1024x576 1 [⟨S1024x512, x⟩, ⟨S1024x64, g⟩] concatenates_S1024x512_S1024x64_S1024x576_d1 (ix2 t k)
      = if h : k.val < 512 then x (ix2 t ⟨k.val, h⟩) else g (ix2 t ⟨k.val - 512, by omega⟩) := by
  pointwise

theorem xOp_token (c : Dev nD) (t : Fin 1024) (d : Fin 512) (k : Fin 576) (hk : k.val = d.val) :
    xOp m c (ix2 t k) = tokens m c (ix2 t d) := by
  rw [xOp_eq, beside_apply, dif_pos (by omega)]
  exact congrArg (fun k => tokens m c (ix2 t k)) (Fin.ext hk)

/-- Routing column `4i + j` of a device's block is the weight of block `j` of the device `i` places on. -/
theorem xOp_weight (c : Dev nD) (t : Fin 1024) (i : Fin 16) (j : Fin 4) (k : Fin 576) (hk : k.val = 512 + (4 * i.val + j.val)) :
    xOp m c (ix2 t k) = weights m c (ix2 t (Mixture.expert c i j)) := by
  rw [xOp_eq, beside_apply, dif_neg (by omega), rollStart_shift, rolled_apply _ _ (by have : c.val < 16 := c.isLt; split_ifs <;> omega)]
  refine congrArg (fun k => weights m c (ix2 t k)) (Fin.ext ?_)
  show (k.val - 512 + (if c.val = 0 then 64 else 4 * c.val)) % 64 = 4 * ((c.val + i.val) % 16) + j.val
  have : c.val < 16 := c.isLt
  split_ifs <;> omega

theorem blocks_apply (W : FVec Ideal S4x512x1024 .f32) (j : Fin 4) (d : Fin 512) (n : Fin 1024) (k : Fin 2048) (hk : k.val = 512 * j.val + d.val) :
    shapeCast S2048x1024 W shapeCasts_S4x512x1024_S2048x1024 (ix2 k n) = W (ix3 j d n) := by
  obtain ⟨k, _⟩ := k
  obtain rfl : k = 512 * j.val + d.val := hk
  pointwise

theorem wBlock_apply (c : Dev nD) (j : Fin 4) (d : Fin 512) (n : Fin 1024) : wBlock j (wOp m c) (ix2 d n) = experts m c (ix3 j d n) := by
  rw [wOp_eq, ← blocks_apply (experts m c) j d n ⟨512 * j.val + d.val, by omega⟩ rfl]
  refine congrArg (shapeCast S2048x1024 (experts m c) shapeCasts_S4x512x1024_S2048x1024) (funext fun b => Fin.ext ?_)
  match b with
  | ⟨0, _⟩ => rw [Rect.emb_apply]; show 512 * j.val + 1 * d.val = 512 * j.val + d.val; omega
  | ⟨1, _⟩ => rw [Rect.emb_apply]; show 0 + 1 * n.val = n.val; omega

/-! ## One step, and the ring -/

theorem term_apply (x : Vec Ideal S1x1024x512 .f32) (g : Vec Ideal S1x1024x1 .f32) (w : Vec Ideal S512x1024 .f32) (t n : Fin 1024) :
    term x g w (ix2 t n) = ∑ d : Fin 512, (x (ix3 0 t d) * g (ix3 0 t 0)) * w (ix2 d n) := by
  pointwise [term]

/-- The device `i` places on. -/
def turn (c : Dev nD) (i : ℕ) : Dev nD := ⟨(c.val + i) % 16, Nat.mod_lt _ (by decide)⟩

theorem left_turn (c : Dev nD) (i : ℕ) : left (turn c (i + 1)) = turn c i :=
  Fin.ext (by show ((c.val + (i + 1)) % 16 + 15) % 16 = (c.val + i) % 16; omega)

/-- One product of a step. -/
theorem term_step (c c' : Dev nD) (i : Fin 16) (j : Fin 4) (t n : Fin 1024) :
    term (rows (xOp m c)) (col (4 * i.val + j.val) (xOp m c)) (wBlock j (wOp m c')) (ix2 t n)
      = ∑ d : Fin 512, (tokens m c (ix2 t d) * weights m c (ix2 t (Mixture.expert c i j))) * experts m c' (ix3 j d n) := by
  rw [term_apply]
  refine Finset.sum_congr rfl fun d _ => ?_
  rw [wBlock_apply]
  have hx : rows (xOp m c) (ix3 0 t d) = tokens m c (ix2 t d) := xOp_token m c t d _ rfl
  have hg : col (4 * i.val + j.val) (xOp m c) (ix3 0 t 0) = weights m c (ix2 t (Mixture.expert c i j)) :=
    xOp_weight m c t i j _ (by show (512 + (4 * i.val + j.val)) % 576 = _; omega)
  rw [hx, hg]

theorem part_apply (c c' : Dev nD) (i : Fin 16) (t n : Fin 1024) :
    part i.val (xOp m c) (wOp m c') (ix2 t n)
      = ∑ j : Fin 4, ∑ d : Fin 512, (tokens m c (ix2 t d) * weights m c (ix2 t (Mixture.expert c i j))) * experts m c' (ix3 j d n) := by
  rw [Fin.sum_univ_four, ← term_step m c c' i 0, ← term_step m c c' i 1, ← term_step m c c' i 2, ← term_step m c c' i 3]
  rfl

theorem X_turn {F : FTy → Type} [FloatOps F] (xw : Dev nD → FVec F S1024x576 .f32) (c : Dev nD) : ∀ h, X xw h (turn c h) = xw c
  | 0 => congrArg xw (Fin.ext (Nat.mod_eq_of_lt c.isLt))
  | h + 1 => by
    show X xw h (left (turn c (h + 1))) = _
    rw [left_turn, X_turn xw c h]

/-- The partial sums after `h` steps, with the block that started on `c`. -/
theorem A_turn (xw : Dev nD → FVec Ideal S1024x576 .f32) (w : Dev nD → FVec Ideal S2048x1024 .f32) (c : Dev nD) (ix : S1024x1024.Idx) :
    ∀ h, A xw w h (turn c h) ix = ∑ i ∈ Finset.range (h + 1), part i (xw c) (w (turn c i)) ix
  | 0 => by
    rw [Finset.sum_range_one]
    show part 0 (xw (turn c 0)) (w (turn c 0)) ix = _
    rw [show xw (turn c 0) = xw c from X_turn xw c 0]
  | h + 1 => by
    rw [Finset.sum_range_succ, ← A_turn xw w c ix h]
    show A xw w h (left (turn c (h + 1))) ix + part (h + 1) (X xw (h + 1) (turn c (h + 1))) (w (turn c (h + 1))) ix = _
    rw [left_turn, X_turn]

/-- The ring's result. -/
theorem yOp_apply (c : Dev nD) (t n : Fin 1024) :
    yOp m c (ix2 t n) = ∑ i : Fin 16, ∑ j : Fin 4, ∑ d : Fin 512,
      (tokens m c (ix2 t d) * weights m c (ix2 t (Mixture.expert c i j))) * experts m (turn c i.val) (ix3 j d n) := by
  have hl : left c = turn c 15 := rfl
  unfold yOp
  rw [hl, A_turn, Finset.sum_range]
  exact Finset.sum_congr rfl fun i _ => part_apply m c (turn c i.val) i t n

end Memory

end Cert.KernelIdeal.Ring

end
-- ==== Proof.ReferenceIdeal.Value.lean ====
/- The reference at a token and an output column: the two chosen experts' products, each by its share of the two
   probabilities. -/
module

public import proofs.«01_k».proof.Proof.Gen.ReferenceIdeal.Run
public import proofs.«01_k».proof.Proof.Mixture
public import Idealize.ShloMosaic.Lib.Pointwise
public import Idealize.ShloMosaic.Lib.ReduceAll
public import Idealize.ShloMosaic.Lib.StableHlo.Predicate

@[expose] public section

noncomputable section

namespace Cert.ReferenceIdeal.Read

open Idealize.ShloMosaic Idealize.ShloMosaic.TcCoe Idealize.SL Idealize.SL.Sem
open Cert.ReferenceIdeal.Gen

variable {F : FTy → Type} [FloatOps F]

/-! ## The stages -/

/-- The tokens' scores of every expert. -/
def scores (x : FVec F S16384x512 .f32) (w : FVec F S512x64 .f32) : FVec F S16384x64 .f32 :=
  Host.dotGeneral dot_S16384x512_S512x64_S16384x64_1_0_0_1_n_n none x w

/-- One value a token, at every expert. -/
def spread (v : FVec F S16384 .f32) : FVec F S16384x64 .f32 :=
  broadcastInDim S16384x64 ![0, 1] bcast_S16384x1_S16384x64_0_1 (broadcastInDim S16384x1 ![0] bcast_S16384_S16384x1_0 v)

/-- The exponentials of the scores less their greatest. -/
def exps (s : FVec F S16384x64 .f32) : FVec F S16384x64 .f32 :=
  Host.exp (subf s (spread (Host.reduce FloatOps.maximumf s (constant S_ .f32 0xFF800000#32) reducesTo_S16384x64_S16384_d1 h_S_)))

/-- The probabilities. -/
def probs (s : FVec F S16384x64 .f32) : FVec F S16384x64 .f32 :=
  Host.divf (exps s) (spread (Host.reduceAdd (exps s) (constant S_ .f32 0x00000000#32) reducesTo_S16384x64_S16384_d1 h_S_))

/-- The first, and the second, chosen expert of every token. -/
def choice₀ (r : IVec S16384x2 32) : IVec S16384 32 :=
  shapeCast S16384 (extractStridedSlice S16384x1 ![0, 0] r slices_S16384x2_S16384x1_0_0) shapeCasts_S16384x1_S16384
def choice₁ (r : IVec S16384x2 32) : IVec S16384 32 :=
  shapeCast S16384 (extractStridedSlice S16384x1 ![0, 1] r slices_S16384x2_S16384x1_0_1) shapeCasts_S16384x1_S16384

/-- The choices as a column. -/
def column (e : IVec S16384 32) : IVec S16384x1 32 := broadcastInDim S16384x1 ![0] bcast_S16384_S16384x1_0 e

/-- The place the probabilities are taken from: a negative index counts from the end. -/
def place (e : IVec S16384 32) : IVec S16384x1x1 32 :=
  shapeCast S16384x1x1 (select (cmpi .slt (column e) (broadcastInDim S16384x1 ![] bcast_S_S16384x1 (constantI S_ 32 0#32)))
    (addi (column e) (broadcastInDim S16384x1 ![] bcast_S_S16384x1 (constantI S_ 32 64#32))) (column e)) shapeCasts_S16384x1_S16384x1x1

/-- Whether a place is an expert's. -/
def inside (p : IVec S16384x1x1 32) : IVec S16384x1 1 :=
  Host.reduce IntOp.andi (andi (cmpi .sge p (broadcastInDim S16384x1x1 ![] bcast_S_S16384x1x1 (constantI S_ 32 0#32)))
    (cmpi .sle p (broadcastInDim S16384x1x1 ![0, 1, 2] bcast_S1x1x1_S16384x1x1_0_1_2 (broadcastInDim S1x1x1 ![2] bcast_S1_S1x1x1_2 (constantI S1 32 63#32)))))
    (constantI S_ 1 1#1) reducesTo_S16384x1x1_S16384x1_d2 h_S_

/-- The chosen experts' probabilities. -/
def taken (p : FVec F S16384x64 .f32) (e : IVec S16384 32) : FVec F S16384x1 .f32 :=
  select (inside (place e)) (Host.gather gather_S16384x64_S16384x1x1_S16384x1_n_1_0_0_1_2_11 p (place e))
    (broadcastInDim S16384x1 ![] bcast_S_S16384x1 (constant S_ .f32 0x7FC00000#32))

/-- The chosen experts' matrices, one a token. -/
def matrices (W : FVec F S64x512x1024 .f32) (e : IVec S16384 32) : FVec F S16384x512x1024 .f32 :=
  Host.gather gather_S64x512x1024_S16384x1_S16384x512x1024_12_0_n_n_0_1_15121024 W
    (broadcastInDim S16384x1 ![0] bcast_S16384_S16384x1_0
      (select (cmpi .slt e (broadcastInDim S16384 ![] bcast_S_S16384 (constantI S_ 32 0#32)))
        (addi e (broadcastInDim S16384 ![] bcast_S_S16384 (constantI S_ 32 64#32))) e))

/-- The tokens through their chosen experts' matrices. -/
def products (x : FVec F S16384x512 .f32) (M : FVec F S16384x512x1024 .f32) : FVec F S16384x1024 .f32 :=
  Host.dotGeneral dot_S16384x512_S16384x512x1024_S16384x1024_1_1_n_2_0_0 none x M

/-- A share, at every output column. -/
def share (g g₀ g₁ : FVec F S16384x1 .f32) : FVec F S16384x1024 .f32 :=
  broadcastInDim S16384x1024 ![0, 1] bcast_S16384x1_S16384x1024_0_1 (Host.divf g (addf g₀ g₁))

/-- The reference's result. -/
def result (x : FVec F S16384x512 .f32) (w : FVec F S512x64 .f32) (r : IVec S16384x2 32) (W : FVec F S64x512x1024 .f32) :
    FVec F S16384x1024 .f32 :=
  addf
    (mulf (share (taken (probs (scores x w)) (choice₀ r)) (taken (probs (scores x w)) (choice₀ r)) (taken (probs (scores x w)) (choice₁ r)))
      (products x (matrices W (choice₀ r))))
    (mulf (share (taken (probs (scores x w)) (choice₁ r)) (taken (probs (scores x w)) (choice₀ r)) (taken (probs (scores x w)) (choice₁ r)))
      (products x (matrices W (choice₁ r))))

theorem result_eq (m : (ℓ : Loc nD τ sig) → Buf (Elt F) ℓ) (c : Dev nD) :
    Value.res_main_v41 m c = result (m ((c.tc : Thread nD τ).loc main_arg0)) (m ((c.tc : Thread nD τ).loc main_arg1))
      (m ((c.tc : Thread nD τ).loc main_arg2)) (m ((c.tc : Thread nD τ).loc main_arg3)) := by
  unfold Value.res_main_v41
  rfl

/-! ## The stages at an index -/

theorem scores_apply (x : FVec Ideal S16384x512 .f32) (w : FVec Ideal S512x64 .f32) (t : Fin 16384) (e : Fin 64) :
    scores x w (ix2 t e) = ∑ d : Fin 512, x (ix2 t d) * w (ix2 d e) := by
  pointwise [scores]

theorem probs_apply (s : FVec Ideal S16384x64 .f32) (t : Fin 16384) (e : Fin 64) :
    probs s (ix2 t e) = Mixture.prob (fun e' => s (ix2 t e')) e := by
  pointwise [probs, exps, spread]
  rw [Mixture.bits_bot]
  rfl

theorem choice₀_apply (r : IVec S16384x2 32) (t : Fin 16384) : choice₀ r (ix1 t) = r (ix2 t 0) := by
  pointwise [choice₀]
theorem choice₁_apply (r : IVec S16384x2 32) (t : Fin 16384) : choice₁ r (ix1 t) = r (ix2 t 1) := by
  pointwise [choice₁]

theorem place_apply (e : IVec S16384 32) (t : Fin 16384) (a : Fin 64) (h : e (ix1 t) = Mixture.name a) :
    place e (ix3 t 0 0) = Mixture.name a := by
  pointwise [place, column]
  rw [h]
  exact Mixture.name_wrap a

theorem products_apply (x : FVec Ideal S16384x512 .f32) (M : FVec Ideal S16384x512x1024 .f32) (t : Fin 16384) (n : Fin 1024) :
    products x M (ix2 t n) = ∑ d : Fin 512, x (ix2 t d) * M (ix3 t d n) := by
  pointwise [products]

theorem share_apply (g g₀ g₁ : FVec Ideal S16384x1 .f32) (t : Fin 16384) (n : Fin 1024) :
    share g g₀ g₁ (ix2 t n) = Ideal.div (g (ix2 t 0)) (g₀ (ix2 t 0) + g₁ (ix2 t 0)) := by
  pointwise [share]

theorem taken_gather_apply {α : Type} (p : S16384x64.Idx → α) (i : IVec S16384x1x1 32) (t : Fin 16384) :
    Host.gather gather_S16384x64_S16384x1x1_S16384x1_n_1_0_0_1_2_11 p i (ix2 t 0)
      = p (ix2 t ⟨min (i (ix3 t 0 0)).toInt.toNat 63, by omega⟩) := by
  unfold Host.gather
  congr 1
  funext a
  refine Fin.ext ?_
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x64_S16384x1x1_S16384x1_n_1_0_0_1_2_11.operandBatchingDims from List.mem_singleton.mpr rfl)]
    rfl
  · rw [GatherDims.batchCoord_eq_zero _ _ _ (fun h => by simp [gather_S16384x64_S16384x1x1_S16384x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x64_S16384x1x1_S16384x1_n_1_0_0_1_2_11.startIndexMap from List.mem_singleton.mpr rfl)]
    have hsi : gather_S16384x64_S16384x1x1_S16384x1_n_1_0_0_1_2_11.siIdx (ix2 t 0) ⟨List.idxOf (1 : Fin 2) gather_S16384x64_S16384x1x1_S16384x1_n_1_0_0_1_2_11.startIndexMap,
        List.idxOf_lt_length_iff.2 (List.mem_singleton.mpr rfl)⟩ = ix3 t 0 0 := by
      funext b; refine Fin.ext ?_
      match b with
      | ⟨0, _⟩ => rfl
      | ⟨1, _⟩ => rfl
      | ⟨2, _⟩ => rfl
    rw [hsi]
    rfl

theorem matrices_gather_apply {α : Type} (W : S64x512x1024.Idx → α) (i : IVec S16384x1 32) (t : Fin 16384) (d : Fin 512) (n : Fin 1024) :
    Host.gather gather_S64x512x1024_S16384x1_S16384x512x1024_12_0_n_n_0_1_15121024 W i (ix3 t d n)
      = W (ix3 ⟨min (i (ix2 t 0)).toInt.toNat 63, by omega⟩ d n) := by
  unfold Host.gather
  congr 1
  funext a
  refine Fin.ext ?_
  show GatherDims.start _ _ _ a + GatherDims.batchCoord _ _ a + GatherDims.offCoord _ _ a = _
  rw [GatherDims.batchCoord_eq_zero _ _ _ (fun h => by simp [gather_S64x512x1024_S16384x1_S16384x512x1024_12_0_n_n_0_1_15121024] at h)]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S64x512x1024_S16384x1_S16384x512x1024_12_0_n_n_0_1_15121024.startIndexMap from List.mem_singleton.mpr rfl)]
    have hsi : gather_S64x512x1024_S16384x1_S16384x512x1024_12_0_n_n_0_1_15121024.siIdx (ix3 t d n) ⟨List.idxOf (0 : Fin 3) gather_S64x512x1024_S16384x1_S16384x512x1024_12_0_n_n_0_1_15121024.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · have h : GatherDims.start gather_S64x512x1024_S16384x1_S16384x512x1024_12_0_n_n_0_1_15121024 (ix3 t d n) i 1 = 0 :=
      dif_neg (by decide)
    rw [h]
    simp only [Nat.zero_add]
    unfold GatherDims.offCoord
    rw [dif_pos (by decide)]
    rfl
  · have h : GatherDims.start gather_S64x512x1024_S16384x1_S16384x512x1024_12_0_n_n_0_1_15121024 (ix3 t d n) i 2 = 0 :=
      dif_neg (by decide)
    rw [h]
    simp only [Nat.zero_add]
    unfold GatherDims.offCoord
    rw [dif_pos (by decide)]
    rfl

theorem inside_eq (e : IVec S16384 32) (a : Fin 16384 → Fin 64) (h : ∀ t, e (ix1 t) = Mixture.name (a t)) (j : S16384x1.Idx) :
    inside (place e) j = 1#1 := by
  refine Host.reduce_andi_one _ _ _ _ _ rfl fun i => ?_
  obtain ⟨t, rfl⟩ : ∃ t, i = ix3 t 0 0 := ⟨i 0, by
    funext b
    match b with
    | ⟨0, _⟩ => rfl
    | ⟨1, _⟩ => exact Subsingleton.elim (α := Fin 1) _ _
    | ⟨2, _⟩ => exact Subsingleton.elim (α := Fin 1) _ _⟩
  pointwise
  rw [place_apply e t (a t) (h t), Mixture.name_sge, Mixture.name_sle]
  rfl

theorem select_inside {s : Shape} {α : Type} (c : IVec s 1) (x y : s.Idx → α) (i : s.Idx) (h : c i = 1#1) : select c x y i = x i := by
  show (if c i = 1#1 then x i else y i) = x i
  exact if_pos h

theorem taken_apply (p : FVec Ideal S16384x64 .f32) (e : IVec S16384 32) (a : Fin 16384 → Fin 64)
    (h : ∀ t, e (ix1 t) = Mixture.name (a t)) (t : Fin 16384) : taken p e (ix2 t 0) = p (ix2 t (a t)) := by
  unfold taken
  rw [select_inside _ _ _ _ (inside_eq e a h _), taken_gather_apply]
  refine congrArg (fun k => p (ix2 t k)) (Fin.ext ?_)
  show min (place e (ix3 t 0 0)).toInt.toNat 63 = (a t).val
  rw [place_apply e t (a t) (h t), Mixture.name_clamp]

theorem matrices_apply (W : FVec Ideal S64x512x1024 .f32) (e : IVec S16384 32) (a : Fin 16384 → Fin 64)
    (h : ∀ t, e (ix1 t) = Mixture.name (a t)) (t : Fin 16384) (d : Fin 512) (n : Fin 1024) :
    matrices W e (ix3 t d n) = W (ix3 (a t) d n) := by
  unfold matrices
  rw [matrices_gather_apply]
  refine congrArg (fun k => W (ix3 k d n)) (Fin.ext ?_)
  have hw : broadcastInDim S16384x1 ![0] bcast_S16384_S16384x1_0
      (select (cmpi .slt e (broadcastInDim S16384 ![] bcast_S_S16384 (constantI S_ 32 0#32)))
        (addi e (broadcastInDim S16384 ![] bcast_S_S16384 (constantI S_ 32 64#32))) e) (ix2 t 0) = Mixture.name (a t) := by
    pointwise
    rw [h t]
    exact Mixture.name_wrap (a t)
  show min (_ : BitVec 32).toInt.toNat 63 = (a t).val
  rw [hw, Mixture.name_clamp]

/-! ## The result -/

/-- The reference at a token and an output column, the token's two choices the experts `a t` and `b t`. -/
theorem result_apply (x : FVec Ideal S16384x512 .f32) (w : FVec Ideal S512x64 .f32) (r : IVec S16384x2 32)
    (W : FVec Ideal S64x512x1024 .f32) (a b : Fin 16384 → Fin 64) (ha : ∀ t, r (ix2 t 0) = Mixture.name (a t))
    (hb : ∀ t, r (ix2 t 1) = Mixture.name (b t)) (t : Fin 16384) (n : Fin 1024) (p : Fin 64 → EReal)
    (hp : p = Mixture.prob fun e => ∑ d : Fin 512, x (ix2 t d) * w (ix2 d e)) :
    result x w r W (ix2 t n)
      = Ideal.div (p (a t)) (p (a t) + p (b t)) * (∑ d : Fin 512, x (ix2 t d) * W (ix3 (a t) d n))
        + Ideal.div (p (b t)) (p (a t) + p (b t)) * (∑ d : Fin 512, x (ix2 t d) * W (ix3 (b t) d n)) := by
  have ha' : ∀ t, choice₀ r (ix1 t) = Mixture.name (a t) := fun t => by rw [choice₀_apply, ha]
  have hb' : ∀ t, choice₁ r (ix1 t) = Mixture.name (b t) := fun t => by rw [choice₁_apply, hb]
  have hs : (fun e' => scores x w (ix2 t e')) = fun e => ∑ d : Fin 512, x (ix2 t d) * w (ix2 d e) :=
    funext fun e => scores_apply x w t e
  show share _ _ _ (ix2 t n) * products x _ (ix2 t n) + share _ _ _ (ix2 t n) * products x _ (ix2 t n) = _
  simp only [share_apply, products_apply, taken_apply _ _ a ha', taken_apply _ _ b hb', matrices_apply W _ a ha',
    matrices_apply W _ b hb', probs_apply, hs, hp]

end Cert.ReferenceIdeal.Read

end
-- ==== Proof.Algebraic.lean ====
/- The kernel against the reference: on every device the ring's sum over all experts, weighed, is the reference's two
   terms of the device's tokens. -/
module

public import proofs.«01_k».proof.Defs
public import proofs.«01_k».proof.Proof.KernelIdeal.Value
public import proofs.«01_k».proof.Proof.KernelIdeal.Frame
public import proofs.«01_k».proof.Proof.ReferenceIdeal.Value
public import Idealize.ShloMosaic.Lib.Layout
public import Idealize.ShloMosaic.Lib.ReduceAll

@[expose] public section

noncomputable section

namespace Cert.Proof

open Idealize.ShloMosaic Idealize.ShloMosaic.TcCoe Idealize.SL.Sem

/-! ## The precondition read -/

section Pre
open Cert.Pre_finite_and_in_range_KernelIdeal

theorem pre_facts : Cert.Pre_finite_and_in_range_KernelIdeal.Facts where
  bcast_S_S1024x512 := by decide
  reducesTo_S1024x512_S_d0_1 := by decide
  h_S_ := by decide
  bcast_S_S512x64 := by decide
  reducesTo_S512x64_S_d0_1 := by decide
  bcast_S_S1024x2 := by decide
  reducesTo_S1024x2_S_d0_1 := by decide

theorem pre_facts_reference : Cert.Pre_finite_and_in_range_ReferenceIdeal.Facts where
  bcast_S_S16384x512 := by decide
  reducesTo_S16384x512_S_d0_1 := by decide
  h_S_ := by decide
  bcast_S_S512x64 := by decide
  reducesTo_S512x64_S_d0_1 := by decide
  bcast_S_S16384x2 := by decide
  reducesTo_S16384x2_S_d0_1 := by decide

theorem real_of_olt {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : Mixture.IsReal (x i) := by
  refine Mixture.isReal_of_lt ?_
  have e : Ideal.cmp .olt (max (x i) (-(x i))) (Ideal.ofBits .f32 0x7F800000#32) = 1#1 := e
  rw [Mixture.bits_top] at e
  simpa [Ideal.cmp, StableHlo.Predicate.ofBool_eq_one_iff] using e

theorem name_of_range {s : Shape} (r : IVec s 32) (h : S_.BroadcastsInDim s (![] : Fin 0 → Fin s.rank)) (i : s.Idx)
    (e : andi (cmpi .sge r (broadcastInDim s ![] h (constantI S_ 32 0#32))) (cmpi .slt r (broadcastInDim s ![] h (constantI S_ 32 64#32))) i = 1#1) :
    ∃ a, r i = Mixture.name a := by
  obtain ⟨e₁, e₂⟩ := IntOp.andi_eq_one.1 e
  exact Mixture.exists_name _ e₁ e₂

theorem pre_read [Facts] (x : FVec Ideal S1024x512 .f32) (w : FVec Ideal S512x64 .f32) (r : IVec S1024x2 32) (W : FVec Ideal S4x512x1024 .f32)
    (h : fn x w r W = fun _ => 1#1) : (∀ i, Mixture.IsReal (x i)) ∧ (∀ i, Mixture.IsReal (w i)) ∧ ∀ i, ∃ a, r i = Mixture.name a := by
  have : Subsingleton S_.Idx := ⟨fun a b => funext fun d => d.elim0⟩
  have e := congrFun h ix0
  obtain ⟨e, e₃⟩ := IntOp.andi_eq_one.1 e
  obtain ⟨e₁, e₂⟩ := IntOp.andi_eq_one.1 e
  exact ⟨fun i => real_of_olt x _ i (Host.reduce_andi_all _ _ _ _ _ e₁ i),
    fun i => real_of_olt w _ i (Host.reduce_andi_all _ _ _ _ _ e₂ i),
    fun i => name_of_range r _ i (Host.reduce_andi_all _ _ _ _ _ e₃ i)⟩

end Pre

/-! ## The blocks -/

/-- Row `t` of device `c`'s tokens, among all tokens. -/
def row (c : Fin 16) (t : Fin 1024) : Fin 16384 := ⟨c.val * 1024 + t.val, by omega⟩

theorem row_surj (T : Fin 16384) : ∃ c t, T = row c t :=
  ⟨⟨T.val / 1024, by omega⟩, ⟨T.val % 1024, by omega⟩, Fin.ext (by show T.val = T.val / 1024 * 1024 + T.val % 1024; omega)⟩

theorem block_rows {α : Type} {N : ℕ} (c : Fin 16) (v : (⟨2, ![16384, N]⟩ : Shape).Idx → α) (h : Layout.Tiles ⟨2, ![1024, N]⟩ ⟨2, ![16384, N]⟩ 0 16)
    (t : Fin 1024) (k : Fin N) : Layout.block ⟨2, ![1024, N]⟩ ⟨2, ![16384, N]⟩ 0 16 c v h (ix2 t k) = v (ix2 (row c t) k) := by
  refine congrArg v (funext fun b => Fin.ext ?_)
  match b with
  | ⟨0, _⟩ => exact (Layout.idx_rows_val h c (ix2 t k)).1
  | ⟨1, _⟩ => exact (Layout.idx_rows_val h c (ix2 t k)).2

theorem block_experts {α : Type} (c : Fin 16) (v : (⟨3, ![64, 512, 1024]⟩ : Shape).Idx → α)
    (h : Layout.Tiles ⟨3, ![4, 512, 1024]⟩ ⟨3, ![64, 512, 1024]⟩ 0 16) (j : Fin 4) (d : Fin 512) (n : Fin 1024) :
    Layout.block ⟨3, ![4, 512, 1024]⟩ ⟨3, ![64, 512, 1024]⟩ 0 16 c v h (ix3 j d n) = v (ix3 ⟨c.val * 4 + j.val, by omega⟩ d n) := by
  refine congrArg v (funext fun b => Fin.ext ?_)
  match b with
  | ⟨0, _⟩ => rfl
  | ⟨1, _⟩ => rfl
  | ⟨2, _⟩ => rfl

/-! ## The two values -/

open Cert.KernelIdeal.Ring (tokens router routes experts weights yOp)

/-- What the ring leaves on every device is the device's rows of the reference's result. -/
theorem value_eq (m : (ℓ : Loc Cert.KernelIdeal.nD Cert.KernelIdeal.τ Cert.KernelIdeal.sig) → Buf (Elt Ideal) ℓ)
    (x : FVec Ideal ⟨2, ![16384, 512]⟩ .f32) (w : FVec Ideal ⟨2, ![512, 64]⟩ .f32) (r : IVec ⟨2, ![16384, 2]⟩ 32) (W : FVec Ideal ⟨3, ![64, 512, 1024]⟩ .f32)
    (hx : ∀ (c : Fin 16) t d, tokens m c (ix2 t d) = x (ix2 (row c t) d)) (hw : ∀ c, router m c = w)
    (hr : ∀ (c : Fin 16) t k, routes m c (ix2 t k) = r (ix2 (row c t) k))
    (hW : ∀ (c : Fin 16) j d n, experts m c (ix3 j d n) = W (ix3 ⟨c.val * 4 + j.val, by omega⟩ d n))
    (fx : ∀ (c : Fin 16) i, Mixture.IsReal (tokens m c i)) (fw : ∀ (c : Fin 16) i, Mixture.IsReal (router m c i))
    (fr : ∀ (c : Fin 16) i, ∃ a, routes m c i = Mixture.name a) (c : Fin 16) (t n : Fin 1024) :
    yOp m c (ix2 t n) = Cert.ReferenceIdeal.Read.result x w r W (ix2 (row c t) n) := by
  have hn : ∀ (k : Fin 2) (T : Fin 16384), ∃ a, r (ix2 T k) = Mixture.name a := fun k T => by
    obtain ⟨c, t, rfl⟩ := row_surj T
    rw [← hr]
    exact fr c _
  choose a ha using hn 0
  choose b hb using hn 1
  have hs : (fun e => ∑ d : Fin 512, tokens m c (ix2 t d) * router m c (ix2 d e)) = fun e => ∑ d : Fin 512, x (ix2 (row c t) d) * w (ix2 d e) :=
    funext fun e => Finset.sum_congr rfl fun d _ => by rw [hx, hw]
  obtain ⟨q, hq, hp⟩ := Mixture.prob_pos (fun e => ∑ d : Fin 512, x (ix2 (row c t) d) * w (ix2 d e)) fun e => by
    rw [← congrFun hs e]
    exact Mixture.IsReal.sum _ _ fun d => (fx c _).mul (fw c _)
  rw [Cert.ReferenceIdeal.Read.result_apply x w r W a b ha hb (row c t) n _ rfl,
    ← Mixture.mixture _ q hq hp (a (row c t)) (b (row c t)) (fun d : Fin 512 => x (ix2 (row c t) d)) (fun e d => W (ix3 e d n)),
    ← Mixture.sum_ring c, Cert.KernelIdeal.Ring.yOp_apply]
  refine Finset.sum_congr rfl fun i _ => Finset.sum_congr rfl fun j _ => Finset.sum_congr rfl fun d _ => ?_
  have he : experts m (Cert.KernelIdeal.Ring.turn c i.val) (ix3 j d n) = W (ix3 (Mixture.expert c i j) d n) :=
    (hW _ j d n).trans <| congrArg (fun e => W (ix3 e d n)) <| Fin.ext <| by
      show (c.val + i.val) % 16 * 4 + j.val = 4 * ((c.val + i.val) % 16) + j.val
      omega
  rw [he, hx, Cert.KernelIdeal.Ring.weights_apply m c t (a (row c t)) (b (row c t)) ((hr c t 0).trans (ha _)) ((hr c t 1).trans (hb _)), hs]

/-- The kernel computes the reference. -/
theorem algebraic [Cert.Pre_finite_and_in_range_KernelIdeal.Facts] :
    algebraic_KernelIdeal_ReferenceIdeal_pre_finite_and_in_range_KernelIdeal
      (hKernelIdeal := Cert.KernelIdeal.Gen.facts) (hReferenceIdeal := Cert.ReferenceIdeal.Gen.facts) := by
  intro m g m' g' hpre hm
  have hp := fun c => pre_read _ _ _ _ (hpre c)
  refine ⟨Cert.ReferenceIdeal.Value.res_main_v41 m' 0,
    θ_run_mono (Cert.KernelIdeal.Ring.run_full m g) fun _ h c => ⟨(h.1 c).1.trans ?_, (h.1 c).2⟩,
    θ_run_mono (Cert.ReferenceIdeal.Value.run m' g') fun _ h => h 0⟩
  rw [Cert.ReferenceIdeal.Read.result_eq]
  funext i
  rw [eq_ix2 i]
  refine Eq.trans ?_ (block_rows c _ _ _ _).symm
  refine value_eq m _ _ _ _ (fun c t d => ?_) (fun c => (hm c).2.1) (fun c t k => ?_) (fun c j d n => ?_)
    (fun c => (hp c).1) (fun c => (hp c).2.1) (fun c => (hp c).2.2) c _ _
  · exact (congrFun (hm c).1 _).trans (block_rows c _ _ t d)
  · exact (congrFun (hm c).2.2.1 _).trans (block_rows c _ _ t k)
  · exact (congrFun (hm c).2.2.2 _).trans (block_experts c _ _ j d n)

end Cert.Proof

end
-- ==== Proof.lean ====
/- The certificate's claims, from the kernel's run at its two float instances and the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Algebraic
public import Idealize.ShloMosaic.Adequacy
public import Idealize.ShloMosaic.Init

@[expose] public section

noncomputable section

namespace Cert.Proof

open Idealize.ShloMosaic Idealize.SL.Sem

theorem frame_Kernel [Cert.Kernel.Facts] : quiescent_Kernel := fun m g _ =>
  θ_run_mono (Cert.Kernel.Ring.run_full m g) fun _ h => ⟨fun c => (h.1 c).2, h.2⟩

theorem frame_KernelIdeal [Cert.KernelIdeal.Facts] : quiescent_KernelIdeal := fun m g _ =>
  θ_run_mono (Cert.KernelIdeal.Ring.run_full m g) fun _ h => ⟨fun c => (h.1 c).2, h.2⟩

theorem frame_ReferenceIdeal [Cert.ReferenceIdeal.Facts] : quiescent_ReferenceIdeal := fun m g _ =>
  θ_run_mono (Cert.ReferenceIdeal.Value.run m g) fun _ h => ⟨fun c => (h c).2, funext fun s => nomatch s.2⟩

theorem claim : Cert.Claim :=
  ⟨Cert.Kernel.Gen.facts, Cert.KernelIdeal.Gen.facts, Cert.ReferenceIdeal.Gen.facts, pre_facts, pre_facts_reference,
    frame_Kernel, frame_KernelIdeal, fun m g _ => frame_KernelIdeal m g trivial, frame_ReferenceIdeal,
    fun m g _ => frame_ReferenceIdeal m g trivial, trivial, @algebraic pre_facts⟩

end Cert.Proof

end
